-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v0)) (v2 : (c : Dev Cert.KernelIdeal.nD) → Buf (Elt Ideal) ((c.tc : Thread Cert.KernelIdeal.nD Cert.KernelIdeal.τ).loc Cert.KernelIdeal.main_v2_1)) (v3 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_v2_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v8) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x64 : Shape := ⟨2, ![16384, 64]⟩
abbrev S16384x128 : Shape := ⟨2, ![16384, 128]⟩
abbrev S819200 : Shape := ⟨1, ![819200]⟩
abbrev S16385 : Shape := ⟨1, ![16385]⟩
abbrev S2457600 : Shape := ⟨1, ![2457600]⟩
abbrev S12800 : Shape := ⟨1, ![12800]⟩
abbrev S_ : Shape := ⟨0, ![]⟩
abbrev S64x16384 : Shape := ⟨2, ![64, 16384]⟩
abbrev S192x16384 : Shape := ⟨2, ![192, 16384]⟩
abbrev S49152 : Shape := ⟨1, ![49152]⟩
abbrev S49153 : Shape := ⟨1, ![49153]⟩
abbrev S64x8192 : Shape := ⟨2, ![64, 8192]⟩
abbrev S8192x128 : Shape := ⟨2, ![8192, 128]⟩
abbrev S192x8192 : Shape := ⟨2, ![192, 8192]⟩
abbrev S128x8192 : Shape := ⟨2, ![128, 8192]⟩
abbrev S16384 : Shape := ⟨1, ![16384]⟩
abbrev S1 : Shape := ⟨1, ![1]⟩
abbrev S16384x192 : Shape := ⟨2, ![16384, 192]⟩

abbrev nBuf : Table → Nat
  | .hbm => 14
  | .local .tc .vmem => 11
  | .local .scVector .vmem => 6
  | _ => 0

abbrev bufTy : (tb : Table) → Fin (nBuf tb) → BufTy
  | .hbm, ⟨0, _⟩ => ⟨S16384x64, .f32⟩
  | .hbm, ⟨1, _⟩ => ⟨S16384x128, .f32⟩
  | .hbm, ⟨2, _⟩ => ⟨S819200, .i32⟩
  | .hbm, ⟨3, _⟩ => ⟨S16385, .i32⟩
  | .hbm, ⟨4, _⟩ => ⟨S819200, .i32⟩
  | .hbm, ⟨5, _⟩ => ⟨S16385, .i32⟩
  | .hbm, ⟨6, _⟩ => ⟨S819200, .i32⟩
  | .hbm, ⟨7, _⟩ => ⟨S16385, .i32⟩
  | .hbm, ⟨8, _⟩ => ⟨S2457600, .i32⟩
  | .hbm, ⟨9, _⟩ => ⟨S64x16384, .f32⟩
  | .hbm, ⟨10, _⟩ => ⟨S192x16384, .f32⟩
  | .hbm, ⟨11, _⟩ => ⟨S49152, .i32⟩
  | .hbm, ⟨12, _⟩ => ⟨S49153, .i32⟩
  | .hbm, ⟨13, _⟩ => ⟨S16384x192, .f32⟩
  | .local .tc .vmem, ⟨0, _⟩ => ⟨S64x8192, .f32⟩
  | .local .tc .vmem, ⟨1, _⟩ => ⟨S64x8192, .f32⟩
  | .local .tc .vmem, ⟨2, _⟩ => ⟨S8192x128, .f32⟩
  | .local .tc .vmem, ⟨3, _⟩ => ⟨S8192x128, .f32⟩
  | .local .tc .vmem, ⟨4, _⟩ => ⟨S16385, .i32⟩
  | .local .tc .vmem, ⟨5, _⟩ => ⟨S16385, .i32⟩
  | .local .tc .vmem, ⟨6, _⟩ => ⟨S16385, .i32⟩
  | .local .tc .vmem, ⟨7, _⟩ => ⟨S192x8192, .f32⟩
  | .local .tc .vmem, ⟨8, _⟩ => ⟨S192x8192, .f32⟩
  | .local .tc .vmem, ⟨9, _⟩ => ⟨S49152, .i32⟩
  | .local .tc .vmem, ⟨10, _⟩ => ⟨S49153, .i32⟩
  | .local .scVector .vmem, ⟨0, _⟩ => ⟨S12800, .i32⟩
  | .local .scVector .vmem, ⟨1, _⟩ => ⟨S12800, .i32⟩
  | .local .scVector .vmem, ⟨2, _⟩ => ⟨S12800, .i32⟩
  | .local .scVector .vmem, ⟨3, _⟩ => ⟨S12800, .i32⟩
  | .local .scVector .vmem, ⟨4, _⟩ => ⟨S12800, .i32⟩
  | .local .scVector .vmem, ⟨5, _⟩ => ⟨S12800, .i32⟩
  | _, _ => ⟨S16384x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v3 : Ref sig .tc := ⟨.hbm, 13, rfl⟩
abbrev main_arg2_scv : Ref sig .scVector := ⟨.hbm, 2, rfl⟩
abbrev main_arg4_scv : Ref sig .scVector := ⟨.hbm, 4, rfl⟩
abbrev main_arg6_scv : Ref sig .scVector := ⟨.hbm, 6, rfl⟩
abbrev main_v0_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg5_1 : Ref sig .tc := ⟨.vmem, 8, rfl⟩
abbrev cc1_stg6_0 : Ref sig .tc := ⟨.vmem, 9, rfl⟩
abbrev cc1_stg7_0 : Ref sig .tc := ⟨.vmem, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc1_sem6_0 : DmaSem sig := 21
abbrev cc1_sem7_0 : DmaSem sig := 22
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v3 : BitVec 32 := Scalar.addi v2 c0_i32
  ![v3.toNat]
def k0_off2 (i : grid0.Coords) (c0_i32_0 : BitVec 32) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v3 : BitVec 32 := Scalar.addi v2 c0_i32
  let v4 : BitVec 32 := Scalar.addi c0_i32_0 v3
  ![v4.toNat]
abbrev grid1 : Pipeline.Grid := ⟨1, ![2], ![false]⟩

def k1_cond1 (i : grid1.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_6 : BitVec 32 := 0#32
  let v8 : BitVec 1 := Scalar.cmpi .ne v7 c0_i32_6
  v8

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S64x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16385 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16385 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16385 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S192x8192 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S49152 .i32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S49153 .i32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x64 : Shape := ⟨2, ![16384, 64]⟩
abbrev S16384x128 : Shape := ⟨2, ![16384, 128]⟩
abbrev S819200 : Shape := ⟨1, ![819200]⟩
abbrev S16385 : Shape := ⟨1, ![16385]⟩
abbrev S16384x192 : Shape := ⟨2, ![16384, 192]⟩
abbrev S16384 : Shape := ⟨1, ![16384]⟩
abbrev S2457600 : Shape := ⟨1, ![2457600]⟩
abbrev S49152 : Shape := ⟨1, ![49152]⟩
abbrev S_ : Shape := ⟨0, ![]⟩
abbrev S1 : Shape := ⟨1, ![1]⟩
abbrev S49153 : Shape := ⟨1, ![49153]⟩

abbrev nBuf : Space → Nat
  | .hbm => 26
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x128, .f32⟩
  | .hbm, ⟨2, _⟩ => ⟨S819200, .i32⟩
  | .hbm, ⟨3, _⟩ => ⟨S16385, .i32⟩
  | .hbm, ⟨4, _⟩ => ⟨S819200, .i32⟩
  | .hbm, ⟨5, _⟩ => ⟨S16385, .i32⟩
  | .hbm, ⟨6, _⟩ => ⟨S819200, .i32⟩
  | .hbm, ⟨7, _⟩ => ⟨S16385, .i32⟩
  | .hbm, ⟨8, _⟩ => ⟨S16384x192, .f32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384, .i32⟩
  | .hbm, ⟨18, _⟩ => ⟨S2457600, .i32⟩
  | .hbm, ⟨19, _⟩ => ⟨S49152, .i32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S_, .i32⟩
  | .hbm, ⟨24, _⟩ => ⟨S49152, .i32⟩
  | .hbm, ⟨25, _⟩ => ⟨S49153, .i32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_v1 : Ref sig .tc := ⟨.hbm, 11, rfl⟩
abbrev main_call1_v0 : Ref sig .tc := ⟨.hbm, 12, rfl⟩
abbrev main_call1_v1 : Ref sig .tc := ⟨.hbm, 13, rfl⟩
abbrev main_v2 : Ref sig .tc := ⟨.hbm, 14, rfl⟩
abbrev main_call2_v0 : Ref sig .tc := ⟨.hbm, 15, rfl⟩
abbrev main_call2_v1 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_call3_call0_c : Ref sig .tc := ⟨.hbm, 22, rfl⟩
abbrev main_call3_call0_v0 : Ref sig .tc := ⟨.hbm, 23, rfl⟩
abbrev main_v7 : Ref sig .tc := ⟨.hbm, 24, rfl⟩
abbrev main_v8 : Ref sig .tc := ⟨.hbm, 25, rfl⟩

abbrev nD : Nat := 1
abbrev τ : Topo := Topo.v7x

variable {F : FTy → Type} [FloatOps F]
-- ==== Proof.KernelIdeal.Setup.lean ====
/-
  What the launch of the kernel is proved over: the program's configuration, the resource algebra, the HBM
  buffers, and what one vector subcore owns of them.

  The three value arrays of 819200 words are each cut into 64 chunks of 12800 words, and the result of 2457600
  words into 3 x 64 chunks. Vector subcore `(c, i)` copies the chunks `4 * i + 2 * c` and `4 * i + 2 * c + 1` of
  every value array to the same chunks of that array's third of the result. "Column" `k` is what belongs to
  chunk number `k`: the three chunks read and the three chunks written.
-/
module

public import proofs.«01_k».proof.Defs
public import Idealize.ShloMosaic.Lib.SparseCore.Quiescent
public import Idealize.ShloMosaic.Lib.SparseCore.Ops
public import Idealize.ShloMosaic.Lib.SparseCore.Launch
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Wt

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the handshakes, the TensorCore region's staging, the copies' counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

abbrev EH : Emb UH (MT nD τ sig (HIx 1) (Elt F) ℕ UU ℕ) := embL

def EP : Emb UR (MT nD τ sig (HIx 1) (Elt F) ℕ UU ℕ) :=
  (Emb.inl : Emb UR (UR × Counters)).trans embR

instance EP_landsIn : (EP (F := F)).LandsIn (upEmb : UEmb _ (MT nD τ sig (HIx 1) (Elt F) ℕ UU ℕ)) := by
  unfold EP; infer_instance

/-! ## The launch memory and the buffers -/

variable (m : (ℓ : Loc nD τ sig) → Buf (Elt F) ℓ)

abbrev loc (d : Dev nD) (b : Ref sig .tc) : Loc nD τ sig := (SparseCore.T d).loc b

/-- The three value arrays and the result the subcores write. -/
abbrev aLoc (d : Dev nD) : Loc nD τ sig := loc d main_arg2
abbrev bLoc (d : Dev nD) : Loc nD τ sig := loc d main_arg4
abbrev cLoc (d : Dev nD) : Loc nD τ sig := loc d main_arg6
abbrev oLoc (d : Dev nD) : Loc nD τ sig := loc d main_v0

/-- A position of a value array, and of the result, by its number. -/
abbrev at819200 (n : Nat) (h : n < 819200) : S819200.Idx := fun | 0 => ⟨n, h⟩

/-- The three value arrays one after another: word `n` is word `n % 819200` of array `n / 819200`. -/
def cat3 (a b c : S819200.Idx → Elt F .i32) : S2457600.Idx → Elt F .i32 := fun x =>
  (match (x 0).val / 819200 with | 0 => a | 1 => b | _ => c)
    (at819200 ((x 0).val % 819200) (Nat.mod_lt _ (by decide)))

/-- What the result holds when the subcores are done. -/
abbrev vals (d : Dev nD) : Buf (Elt F) (oLoc d) := cat3 (m (aLoc d)) (m (bLoc d)) (m (cLoc d))

/-! ## The chunks -/

theorem div64 : 64 ∣ S819200.size 0 := ⟨12800, rfl⟩
theorem div192 : 192 ∣ S2457600.size 0 := ⟨12800, rfl⟩

/-- Chunk `k` of third `t` is chunk `64 * t + k` of the result. -/
abbrev ochunk (t : Fin 3) (k : Fin 64) : Fin 192 := ⟨64 * t.val + k.val, by omega⟩

abbrev src (k : Fin 64) : Finset S819200.Idx := (Rect.part (s := S819200) (a₀ := 0) div64 k).set
abbrev dst (t : Fin 3) (k : Fin 64) : Finset S2457600.Idx := (Rect.part (s := S2457600) (a₀ := 0) div192 (ochunk t k)).set

variable [FloatOps F]

/-! ## What one subcore owns -/

/-- Column `k`, the result's chunks at contents `f`. -/
abbrev col (d : Dev nD) (f : Buf (Elt F) (oLoc d)) (k : Fin 64) : sProp 𝕄 :=
  iprop((aLoc d ↦[src k]{fullShare} m (aLoc d)) ∗ (bLoc d ↦[src k]{fullShare} m (bLoc d)) ∗ (cLoc d ↦[src k]{fullShare} m (cLoc d))
    ∗ (oLoc d ↦[dst 0 k]{fullShare} f) ∗ (oLoc d ↦[dst 1 k]{fullShare} f) ∗ (oLoc d ↦[dst 2 k]{fullShare} f))

/-- The two columns of the subcore `i` of SparseCore `c`. -/
abbrev colOf (c : Fin 2) (i : Fin 16) (r : Fin 2) : Fin 64 := ⟨4 * i.val + 2 * c.val + r.val, by omega⟩

abbrev piece (d : Dev nD) (f : Buf (Elt F) (oLoc d)) (c : Fin 2) (i : Fin 16) : sProp 𝕄 :=
  iprop(col m d f (colOf c i 0) ∗ col m d f (colOf c i 1))

theorem nCore_zero : (K (F := F)).nCore 0 = 2 := rfl
theorem nSub_zero : (K (F := F)).nSub 0 = 16 := rfl

/-- What the one call hands over and takes back: each SparseCore its sixteen subcores' columns, the result's
    chunks at the launch contents on the way in and at the three arrays one after another on the way out. -/
def P : (K (F := F)).Pay (nD := nD) (Val := Elt F) (Name := ℕ) (U := UU) where
  st := fun q d c => match q with
    | 0 => bigSep Finset.univ fun i : Fin 16 => piece m d (m (oLoc d)) (Fin.cast nCore_zero c) i
  dn := fun q d c => match q with
    | 0 => bigSep Finset.univ fun i : Fin 16 => piece m d (vals m d) (Fin.cast nCore_zero c) i
  go := fun q d c i => match q with
    | 0 => piece m d (m (oLoc d)) (Fin.cast nCore_zero c) (Fin.cast nSub_zero i)
  td := fun q d c i => match q with
    | 0 => piece m d (vals m d) (Fin.cast nCore_zero c) (Fin.cast nSub_zero i)
  x := fun _ _ => iprop(emp)

instance P_storable : (P (F := F) m).IsStorable where
  st q d c := match q with
    | 0 => (inferInstance : BI.Storable (upEmb : UEmb _ 𝕄)
        (bigSep Finset.univ fun i : Fin 16 => piece m d (m (oLoc d)) (Fin.cast nCore_zero c) i))
  dn q d c := match q with
    | 0 => (inferInstance : BI.Storable (upEmb : UEmb _ 𝕄)
        (bigSep Finset.univ fun i : Fin 16 => piece m d (vals m d) (Fin.cast nCore_zero c) i))
  go q d c i := match q with
    | 0 => (inferInstance : BI.Storable (upEmb : UEmb _ 𝕄) (piece m d (m (oLoc d)) (Fin.cast nCore_zero c) (Fin.cast nSub_zero i)))
  td q d c i := match q with
    | 0 => (inferInstance : BI.Storable (upEmb : UEmb _ 𝕄) (piece m d (vals m d) (Fin.cast nCore_zero c) (Fin.cast nSub_zero i)))

/-- A SparseCore's share IS its subcores' pieces. -/
theorem vecSplit : (K (F := F)).VecSplit' (P m) 0 := by
  intro d c
  show (bigSep Finset.univ fun i : Fin 16 => piece m d (m (oLoc d)) (Fin.cast nCore_zero c) i) ⊢ |={Set.univ}=> iprop(
      (bigSep Finset.univ fun i : Fin 16 => piece m d (m (oLoc d)) (Fin.cast nCore_zero c) i)
      ∗ ((bigSep Finset.univ fun i : Fin 16 => piece m d (vals m d) (Fin.cast nCore_zero c) i)
          -∗ bigSep Finset.univ fun i : Fin 16 => piece m d (vals m d) (Fin.cast nCore_zero c) i))
  iintro H
  imodintro
  isplitl [H]
  · iexact H
  iintro H
  iexact H

end Cert.KernelIdeal.Wt

end
-- ==== Proof.KernelIdeal.Tile.lean ====
/-
  One vector subcore's task: six chunks fetched into six buffers of its own memory, each written back to its place
  in the result as soon as it has arrived. From the subcore's two columns with the result's chunks at the launch
  contents, the task leaves them with the result's chunks at the three value arrays one after another.
-/
module

public import proofs.«01_k».proof.Proof.KernelIdeal.Setup

@[expose] public section

noncomputable section

namespace Cert.KernelIdeal.Wt

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (d : Dev nD) (L : grid0.Coords)

/-! ## The subcore, its coordinates and its buffers -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev VT (d : Dev nD) (L : grid0.Coords) : Thread nD τ := V d (cV L) (jV L)
abbrev colL (L : grid0.Coords) (r : Fin 2) : Fin 64 := colOf (Fin.cast bound_zero (L 0)) (Fin.cast bound_one (L 1)) r

abbrev aM : Memref sig .scVector .hbm S819200 .i32 := Memref.whole main_arg2_scv
abbrev bM : Memref sig .scVector .hbm S819200 .i32 := Memref.whole main_arg4_scv
abbrev cM : Memref sig .scVector .hbm S819200 .i32 := Memref.whole main_arg6_scv
abbrev oM : Memref sig .scVector .hbm S2457600 .i32 := Memref.whole main_v0_scv

/-- The chunks as the body slices them. -/
abbrev srcM (M : Memref sig .scVector .hbm S819200 .i32) (L : grid0.Coords) (o : BitVec 32)
    (h : ∀ a, (k0_off1 L o) a + S12800.size a ≤ S819200.size a) : Memref sig .scVector .hbm S12800 .i32 :=
  M.slice (Rect.unit (s := S819200) (k0_off1 L o) S12800.size h) (fun _ => rfl)
abbrev dstM (L : grid0.Coords) (t o : BitVec 32)
    (h : ∀ a, (k0_off2 L t o) a + S12800.size a ≤ S2457600.size a) : Memref sig .scVector .hbm S12800 .i32 :=
  oM.slice (Rect.unit (s := S2457600) (k0_off2 L t o) S12800.size h) (fun _ => rfl)

/-! ### They are the launch's chunks -/

theorem srcR_eq (o : BitVec 32) (h) (r : Fin 2) (ho : o = BitVec.ofNat 32 (12800 * r.val)) :
    Rect.unit (s := S819200) (k0_off1 L o) S12800.size h = Rect.part (s := S819200) (a₀ := 0) div64 (colL L r) := by
  subst ho
  unfold Rect.part Rect.block
  congr 1 <;> funext a
  · rw [k0_off1_eq]
    match a with
    | 0 => show 51200 * (L 1).val + 25600 * (L 0).val + 12800 * r.val = (4 * (L 1).val + 2 * (L 0).val + r.val) * 12800; omega
  · match a with
    | 0 => simp [Shape.partSize]

theorem dstR_eq (u o : BitVec 32) (h) (t : Fin 3) (r : Fin 2) (hu : u = BitVec.ofNat 32 (819200 * t.val)) (ho : o = BitVec.ofNat 32 (12800 * r.val)) :
    Rect.unit (s := S2457600) (k0_off2 L u o) S12800.size h = Rect.part (s := S2457600) (a₀ := 0) div192 (ochunk t (colL L r)) := by
  subst hu; subst ho
  unfold Rect.part Rect.block
  congr 1 <;> funext a
  · rw [k0_off2_eq]
    match a with
    | 0 => show 819200 * t.val + 51200 * (L 1).val + 25600 * (L 0).val + 12800 * r.val = (64 * t.val + (4 * (L 1).val + 2 * (L 0).val + r.val)) * 12800; omega
  · match a with
    | 0 => simp [Shape.partSize]

theorem pts_a (o : BitVec 32) (h) (r : Fin 2) (ho : o = BitVec.ofNat 32 (12800 * r.val)) (f : Buf (Elt F) (aLoc d)) :
    ((srcM aM L o h).view.loc (VT d L) ↦[(srcM aM L o h).view.set]{fullShare} f : sProp 𝕄) = aLoc d ↦[src (colL L r)]{fullShare} f := by
  have e : (srcM aM L o h).view.set = src (colL L r) := by
    rw [src, ← srcR_eq L o h r ho]; exact (View.set_slice _ _).trans Finset.map_refl
  rw [e]
theorem pts_b (o : BitVec 32) (h) (r : Fin 2) (ho : o = BitVec.ofNat 32 (12800 * r.val)) (f : Buf (Elt F) (bLoc d)) :
    ((srcM bM L o h).view.loc (VT d L) ↦[(srcM bM L o h).view.set]{fullShare} f : sProp 𝕄) = bLoc d ↦[src (colL L r)]{fullShare} f := by
  have e : (srcM bM L o h).view.set = src (colL L r) := by
    rw [src, ← srcR_eq L o h r ho]; exact (View.set_slice _ _).trans Finset.map_refl
  rw [e]
theorem pts_c (o : BitVec 32) (h) (r : Fin 2) (ho : o = BitVec.ofNat 32 (12800 * r.val)) (f : Buf (Elt F) (cLoc d)) :
    ((srcM cM L o h).view.loc (VT d L) ↦[(srcM cM L o h).view.set]{fullShare} f : sProp 𝕄) = cLoc d ↦[src (colL L r)]{fullShare} f := by
  have e : (srcM cM L o h).view.set = src (colL L r) := by
    rw [src, ← srcR_eq L o h r ho]; exact (View.set_slice _ _).trans Finset.map_refl
  rw [e]
theorem pts_o (u o : BitVec 32) (h) (t : Fin 3) (r : Fin 2) (hu : u = BitVec.ofNat 32 (819200 * t.val)) (ho : o = BitVec.ofNat 32 (12800 * r.val))
    (f : Buf (Elt F) (oLoc d)) :
    ((dstM L u o h).view.loc (VT d L) ↦[(dstM L u o h).view.set]{fullShare} f : sProp 𝕄) = oLoc d ↦[dst t (colL L r)]{fullShare} f := by
  have e : (dstM L u o h).view.set = dst t (colL L r) := by
    rw [dst, ← dstR_eq L u o h t r hu ho]; exact (View.set_slice _ _).trans Finset.map_refl
  rw [e]

/-! ### What a chunk holds once it is written -/

/-- Array `t` of three. -/
def arr (a b c : S819200.Idx → Elt F .i32) : Fin 3 → S819200.Idx → Elt F .i32
  | 0 => a
  | 1 => b
  | 2 => c

/-- Word `819200 * t + n` of the three arrays one after another is word `n` of array `t`. -/
theorem cat3_at (a b c : S819200.Idx → Elt F .i32) (t : Fin 3) (x : S2457600.Idx) (y : S819200.Idx) (h : (x 0).val = 819200 * t.val + (y 0).val) :
    cat3 a b c x = arr a b c t y := by
  have hy : (y 0).val < 819200 := (y 0).isLt
  have hd : (x 0).val / 819200 = t.val := by omega
  have hm : at819200 ((x 0).val % 819200) (Nat.mod_lt _ (by decide)) = y := by
    funext i
    match i with
    | 0 => exact Fin.ext (show (x 0).val % 819200 = (y 0).val by omega)
  unfold cat3
  rw [hm, hd]
  match t with
  | 0 => rfl
  | 1 => rfl
  | 2 => rfl

/-- A chunk of the result written whole with the words `pay`, which are the chunk's part of the three arrays one
    after another. -/
theorem written (u o : BitVec 32) (h) (t : Fin 3) (r : Fin 2) (hu : u = BitVec.ofNat 32 (819200 * t.val)) (ho : o = BitVec.ofNat 32 (12800 * r.val))
    (f : Buf (Elt F) (oLoc d)) (pay : S12800.Idx → Elt F .i32)
    (hpay : ∀ x : S12800.Idx, ∀ y : S819200.Idx, (y 0).val = (k0_off1 L o) 0 + (x 0).val →
      pay x = arr (m (aLoc d)) (m (bLoc d)) (m (cLoc d)) t y) :
    ((dstM L u o h).view.loc (VT d L) ↦[(dstM L u o h).view.set]{fullShare}
        (dstM L u o h).view.writes (Elt F) f [⟨Rect.whole S12800, pay⟩] : sProp 𝕄)
      = oLoc d ↦[dst t (colL L r)]{fullShare} vals m d := by
  rw [← pts_o d L u o h t r hu ho]
  refine pointsTo_congr fun i hi => ?_
  obtain ⟨x, -, rfl⟩ := Finset.mem_map.mp hi
  have e1 : (dstM L u o h).view.read (Elt F) ((dstM L u o h).view.writes (Elt F) f [⟨Rect.whole S12800, pay⟩]) x = pay x :=
    congrFun (View.read_writes_whole _ _ _) x
  rw [View.read_apply, cast_eq] at e1
  have hx : (x 0).val < 12800 := (x 0).isLt
  have h1 : (k0_off1 L o) 0 + (x 0).val < 819200 := by
    have := k0_off1_inb L r 0
    rw [← ho] at this
    have : (k0_off1 L o) 0 + 12800 ≤ 819200 := this
    omega
  refine e1.trans ((hpay x (at819200 _ h1) rfl).trans (cat3_at _ _ _ t _ _ ?_).symm)
  show (k0_off2 L u o) 0 + 1 * (x 0).val = 819200 * t.val + ((k0_off1 L o) 0 + (x 0).val)
  subst hu; subst ho
  rw [k0_off1_eq, k0_off2_eq]
  simp only [Matrix.cons_val_zero]
  omega

/-- Word `x` of the chunk a slice of a value array reads. -/
theorem read_src (M : Memref sig .scVector .hbm S819200 .i32) (o : BitVec 32) (h) (f : M.view.ty.Contents (Elt F)) (x : S12800.Idx) (y : S819200.Idx)
    (hy : (y 0).val = (k0_off1 L o) 0 + (x 0).val) : (srcM M L o h).view.read (Elt F) f x = M.view.read (Elt F) f y := by
  have e : (Rect.unit (s := S819200) (k0_off1 L o) S12800.size h).emb x = y := by
    funext i
    match i with
    | 0 => exact Fin.ext (show (k0_off1 L o) 0 + 1 * (x 0).val = (y 0).val by omega)
  subst e
  rfl

/-! ## The subcore's own cells and buffers -/

/-- The twelve copy cells: cell `k` of the subcore. -/
abbrev dcell (d : Dev nD) (L : grid0.Coords) (k : Fin 12) : GSem nD τ sig := (VT d L, .dma ⟨k.val, Nat.lt_trans k.isLt (by decide)⟩)

abbrev cells0 (d : Dev nD) (L : grid0.Coords) : sProp 𝕄 :=
  iprop(semVal (VT d L, SemLoc.dma cc0_scratch6.sem) 0 ∗ semVal (VT d L, SemLoc.dma cc0_scratch7.sem) 0 ∗ semVal (VT d L, SemLoc.dma cc0_scratch8.sem) 0
    ∗ semVal (VT d L, SemLoc.dma cc0_scratch9.sem) 0 ∗ semVal (VT d L, SemLoc.dma cc0_scratch10.sem) 0 ∗ semVal (VT d L, SemLoc.dma cc0_scratch11.sem) 0
    ∗ semVal (VT d L, SemLoc.dma cc0_scratch12.sem) 0 ∗ semVal (VT d L, SemLoc.dma cc0_scratch13.sem) 0 ∗ semVal (VT d L, SemLoc.dma cc0_scratch14.sem) 0
    ∗ semVal (VT d L, SemLoc.dma cc0_scratch15.sem) 0 ∗ semVal (VT d L, SemLoc.dma cc0_scratch16.sem) 0 ∗ semVal (VT d L, SemLoc.dma cc0_scratch17.sem) 0)

/-- The six buffers. -/
def scr : Fin 6 → Ref sig .scVector
  | 0 => cc0_scratch0
  | 1 => cc0_scratch1
  | 2 => cc0_scratch2
  | 3 => cc0_scratch3
  | 4 => cc0_scratch4
  | 5 => cc0_scratch5

theorem scr_injective : Function.Injective scr := by decide

theorem scr_owner (c : Fin τ.nSC) (i : Fin τ.nSub) : ∀ k : Fin 6, ((Proc.scVector c i : Proc τ).devRef (scr k)).owner = .proc (.scVector c i)
  | 0 => rfl
  | 1 => rfl
  | 2 => rfl
  | 3 => rfl
  | 4 => rfl
  | 5 => rfl

abbrev scrRefs (L : grid0.Coords) : Finset (DevRef τ sig) :=
  Finset.univ.image fun k => (Proc.scVector (cV L) (jV L) : Proc τ).devRef (scr k)

/-- The subcore's own cells at zero are the twelve copy cells and the rest. -/
theorem ownSems0_split :
    (ownSems0 (VT d L) : sProp 𝕄)
      = iprop(cells0 d L ∗ bigSep (ownCells (VT d L) \ Finset.univ.image (dcell d L)) fun g => semVal g 0) := by
  unfold SparseCore.Cfg.ownSems0
  rw [SparseCore.bigSep_sdiff_split' (t := Finset.univ.image (dcell d L)) (Finset.image_subset_iff.mpr fun k _ =>
      mem_ownCells.mpr ⟨rfl, (show ∀ s : DmaSem sig, (SemLoc.dma s : SemLoc sig).isScoped .scVector = true by decide) _⟩),
    SparseCore.bigSep_image_of_injOn fun a _ b _ h => by
      have := congrArg (fun g : GSem nD τ sig => g.2) h
      simp only [SemLoc.dma.injEq, Fin.mk.injEq] at this; exact Fin.ext this,
    show (Finset.univ : Finset (Fin 12)) = {0, 1, 2, 3, 4, 5, 6, 7, 8, 9, 10, 11} by decide]
  iterate 11 rw [SparseCore.bigSep_insert' (by decide)]
  rw [bigSep_singleton]
  rfl

/-- The subcore's own buffers are the six, at some contents, and the rest. -/
theorem ownBufs_split :
    (ownBufs (VT d L) : sProp 𝕄)
      = iprop(((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ (∃ f, (VT d L).loc cc0_scratch4 ↦{fullShare} f) ∗ (∃ f, (VT d L).loc cc0_scratch5 ↦{fullShare} f))
          ∗ bigSep (ownRefs (τ := τ) (.scVector (cV L) (jV L)) \ scrRefs L) fun b => iprop(∃ f, ((d, b) : Loc nD τ sig) ↦{fullShare} f)) := by
  unfold SparseCore.Cfg.ownBufs
  refine (SparseCore.bigSep_sdiff_split' (t := scrRefs L) (Finset.image_subset_iff.mpr fun k _ =>
    SparseCore.Cfg.mem_ownRefs_of_owner (p := Proc.scVector (cV L) (jV L)) (scr_owner (cV L) (jV L) k))).trans ?_
  rw [SparseCore.bigSep_image_of_injOn fun a _ b _ h => scr_injective (Proc.devRef_injective _ h),
    show (Finset.univ : Finset (Fin 6)) = {0, 1, 2, 3, 4, 5} by decide]
  iterate 5 rw [SparseCore.bigSep_insert' (by decide)]
  rw [bigSep_singleton]
  rfl

variable [FloatOps F]

theorem tile_run (O : CellTallies nD τ sig (HIx 1)) (W : Waits sig (HIx 1))
    (g0 g1 g2 g3 g4 g5 : S12800.Idx → Elt F .i32) :
    (iprop(Transfers.MayWaits (VT d L) (default : HIx 1) O
        ∗ ((srcM aM L 0#32 (k0_off1_inb L 0)).view.loc (VT d L) ↦[(srcM aM L 0#32 (k0_off1_inb L 0)).view.set]{fullShare} m (aLoc d))
        ∗ ((srcM aM L 12800#32 (k0_off1_inb L 1)).view.loc (VT d L) ↦[(srcM aM L 12800#32 (k0_off1_inb L 1)).view.set]{fullShare} m (aLoc d))
        ∗ ((srcM bM L 0#32 (k0_off1_inb L 0)).view.loc (VT d L) ↦[(srcM bM L 0#32 (k0_off1_inb L 0)).view.set]{fullShare} m (bLoc d))
        ∗ ((srcM bM L 12800#32 (k0_off1_inb L 1)).view.loc (VT d L) ↦[(srcM bM L 12800#32 (k0_off1_inb L 1)).view.set]{fullShare} m (bLoc d))
        ∗ ((srcM cM L 0#32 (k0_off1_inb L 0)).view.loc (VT d L) ↦[(srcM cM L 0#32 (k0_off1_inb L 0)).view.set]{fullShare} m (cLoc d))
        ∗ ((srcM cM L 12800#32 (k0_off1_inb L 1)).view.loc (VT d L) ↦[(srcM cM L 12800#32 (k0_off1_inb L 1)).view.set]{fullShare} m (cLoc d))
        ∗ ((dstM L 0#32 0#32 (k0_off2_inb L 0 0)).view.loc (VT d L) ↦[(dstM L 0#32 0#32 (k0_off2_inb L 0 0)).view.set]{fullShare} m (oLoc d))
        ∗ ((dstM L 0#32 12800#32 (k0_off2_inb L 0 1)).view.loc (VT d L) ↦[(dstM L 0#32 12800#32 (k0_off2_inb L 0 1)).view.set]{fullShare} m (oLoc d))
        ∗ ((dstM L 819200#32 0#32 (k0_off2_inb L 1 0)).view.loc (VT d L) ↦[(dstM L 819200#32 0#32 (k0_off2_inb L 1 0)).view.set]{fullShare} m (oLoc d))
        ∗ ((dstM L 819200#32 12800#32 (k0_off2_inb L 1 1)).view.loc (VT d L) ↦[(dstM L 819200#32 12800#32 (k0_off2_inb L 1 1)).view.set]{fullShare} m (oLoc d))
        ∗ ((dstM L 1638400#32 0#32 (k0_off2_inb L 2 0)).view.loc (VT d L) ↦[(dstM L 1638400#32 0#32 (k0_off2_inb L 2 0)).view.set]{fullShare} m (oLoc d))
        ∗ ((dstM L 1638400#32 12800#32 (k0_off2_inb L 2 1)).view.loc (VT d L) ↦[(dstM L 1638400#32 12800#32 (k0_off2_inb L 2 1)).view.set]{fullShare} m (oLoc d))
        ∗ ((Memref.whole cc0_scratch0).view.loc (VT d L) ↦{fullShare} g0)
        ∗ ((Memref.whole cc0_scratch1).view.loc (VT d L) ↦{fullShare} g1)
        ∗ ((Memref.whole cc0_scratch2).view.loc (VT d L) ↦{fullShare} g2)
        ∗ ((Memref.whole cc0_scratch3).view.loc (VT d L) ↦{fullShare} g3)
        ∗ ((Memref.whole cc0_scratch4).view.loc (VT d L) ↦{fullShare} g4)
        ∗ ((Memref.whole cc0_scratch5).view.loc (VT d L) ↦{fullShare} g5)
        ∗ cells0 d L
        ∗ owes (VT d L) O W) : sProp 𝕄)
      ⊢ wp frame (wpE (defs₀ (F := F)) 𝒱₀ (VT d L) none) Set.univ
          (cc0_sc_kernel L aM (Memref.isWhole_whole _) bM (Memref.isWhole_whole _) cM (Memref.isWhole_whole _) oM (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9 cc0_scratch10 cc0_scratch11
            cc0_scratch12 cc0_scratch13 cc0_scratch14 cc0_scratch15 cc0_scratch16 cc0_scratch17)
          fun _ => iprop(col m d (vals m d) (colL L 0) ∗ col m d (vals m d) (colL L 1)
            ∗ (∃ g : S12800.Idx → Elt F .i32, (VT d L).loc cc0_scratch0 ↦{fullShare} g)
            ∗ (∃ g : S12800.Idx → Elt F .i32, (VT d L).loc cc0_scratch1 ↦{fullShare} g)
            ∗ (∃ g : S12800.Idx → Elt F .i32, (VT d L).loc cc0_scratch2 ↦{fullShare} g)
            ∗ (∃ g : S12800.Idx → Elt F .i32, (VT d L).loc cc0_scratch3 ↦{fullShare} g)
            ∗ (∃ g : S12800.Idx → Elt F .i32, (VT d L).loc cc0_scratch4 ↦{fullShare} g)
            ∗ (∃ g : S12800.Idx → Elt F .i32, (VT d L).loc cc0_scratch5 ↦{fullShare} g)
            ∗ cells0 d L ∗ ∃ W', owes (VT d L) O W') := by
  iintro ⟨#Hmw, A0, A1, B0, B1, C0, C1, O0, O1, O2, O3, O4, O5, G0, G1, G2, G3, G4, G5, ⟨Hc0, Hc1, Hc2, Hc3, Hc4, Hc5, Hd0, Hd1, Hd2, Hd3, Hd4, Hd5⟩, HO⟩
  sl_unfold [cc0_sc_kernel]
  sl_exec
  sl_step
  -- each chunk of the result holds what its buffer held, which is what the value array's chunk held
  ihave O0' := (Entails.of_eq (written m d L 0#32 0#32 (k0_off2_inb L 0 0) 0 0 rfl rfl _ (tile_run.sl.dma0_6 m d L g0) fun x y hy =>
    (congrFun (View.read_write_univ _ _) x).trans (read_src L aM 0#32 (k0_off1_inb L 0) _ x y hy))) $$ O0
  ihave O1' := (Entails.of_eq (written m d L 0#32 12800#32 (k0_off2_inb L 0 1) 0 1 rfl rfl _ (tile_run.sl.dma0_7 m d L g1) fun x y hy =>
    (congrFun (View.read_write_univ _ _) x).trans (read_src L aM 12800#32 (k0_off1_inb L 1) _ x y hy))) $$ O1
  ihave O2' := (Entails.of_eq (written m d L 819200#32 0#32 (k0_off2_inb L 1 0) 1 0 rfl rfl _ (tile_run.sl.dma0_8 m d L g2) fun x y hy =>
    (congrFun (View.read_write_univ _ _) x).trans (read_src L bM 0#32 (k0_off1_inb L 0) _ x y hy))) $$ O2
  ihave O3' := (Entails.of_eq (written m d L 819200#32 12800#32 (k0_off2_inb L 1 1) 1 1 rfl rfl _ (tile_run.sl.dma0_9 m d L g3) fun x y hy =>
    (congrFun (View.read_write_univ _ _) x).trans (read_src L bM 12800#32 (k0_off1_inb L 1) _ x y hy))) $$ O3
  ihave O4' := (Entails.of_eq (written m d L 1638400#32 0#32 (k0_off2_inb L 2 0) 2 0 rfl rfl _ (tile_run.sl.dma0_10 m d L g4) fun x y hy =>
    (congrFun (View.read_write_univ _ _) x).trans (read_src L cM 0#32 (k0_off1_inb L 0) _ x y hy))) $$ O4
  ihave O5' := (Entails.of_eq (written m d L 1638400#32 12800#32 (k0_off2_inb L 2 1) 2 1 rfl rfl _ (tile_run.sl.dma0_11 m d L g5) fun x y hy =>
    (congrFun (View.read_write_univ _ _) x).trans (read_src L cM 12800#32 (k0_off1_inb L 1) _ x y hy))) $$ O5
  ihave A0' := (Entails.of_eq (pts_a (F := F) d L 0#32 (k0_off1_inb L 0) 0 rfl _)) $$ A0
  ihave A1' := (Entails.of_eq (pts_a (F := F) d L 12800#32 (k0_off1_inb L 1) 1 rfl _)) $$ A1
  ihave B0' := (Entails.of_eq (pts_b (F := F) d L 0#32 (k0_off1_inb L 0) 0 rfl _)) $$ B0
  ihave B1' := (Entails.of_eq (pts_b (F := F) d L 12800#32 (k0_off1_inb L 1) 1 rfl _)) $$ B1
  ihave C0' := (Entails.of_eq (pts_c (F := F) d L 0#32 (k0_off1_inb L 0) 0 rfl _)) $$ C0
  ihave C1' := (Entails.of_eq (pts_c (F := F) d L 12800#32 (k0_off1_inb L 1) 1 rfl _)) $$ C1
  sl_close

/-- The task from what the launch deals it to what it hands back. -/
theorem tile_body (O : CellTallies nD τ sig (HIx 1)) (W : Waits sig (HIx 1)) (hO : ∀ g, O g none = 0) :
    iprop(levAts (K (F := F)).L (K (F := F)).lev ∗ emp
        ∗ (col m d (m (oLoc d)) (colL L 0) ∗ col m d (m (oLoc d)) (colL L 1))
        ∗ scopedBufs (VT d L) ∗ scopedSems0 (VT d L) ∗ owes (VT d L) O W)
      ⊢ wp frame (wpE (defs₀ (F := F)) 𝒱₀ (VT d L) none) Set.univ
          (cc0_sc_kernel L aM (Memref.isWhole_whole _) bM (Memref.isWhole_whole _) cM (Memref.isWhole_whole _) oM (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9 cc0_scratch10 cc0_scratch11
            cc0_scratch12 cc0_scratch13 cc0_scratch14 cc0_scratch15 cc0_scratch16 cc0_scratch17)
          fun _ => iprop((col m d (vals m d) (colL L 0) ∗ col m d (vals m d) (colL L 1))
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V facts d (cV L) (jV L), SparseCore.Cfg.scopedSems0_V (Val := Elt F) d (cV L) (jV L), ownSems0_split, ownBufs_split]
  iintro ⟨#Hlv, -, ⟨⟨A0, B0, C0, O0, O2, O4⟩, ⟨A1, B1, C1, O1, O3, O5⟩⟩,
    ⟨⟨⟨%g0, G0⟩, ⟨%g1, G1⟩, ⟨%g2, G2⟩, ⟨%g3, G3⟩, ⟨%g4, G4⟩, ⟨%g5, G5⟩⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave A0' := (Entails.of_eq (pts_a (F := F) d L 0#32 (k0_off1_inb L 0) 0 rfl _).symm) $$ A0
  ihave A1' := (Entails.of_eq (pts_a (F := F) d L 12800#32 (k0_off1_inb L 1) 1 rfl _).symm) $$ A1
  ihave B0' := (Entails.of_eq (pts_b (F := F) d L 0#32 (k0_off1_inb L 0) 0 rfl _).symm) $$ B0
  ihave B1' := (Entails.of_eq (pts_b (F := F) d L 12800#32 (k0_off1_inb L 1) 1 rfl _).symm) $$ B1
  ihave C0' := (Entails.of_eq (pts_c (F := F) d L 0#32 (k0_off1_inb L 0) 0 rfl _).symm) $$ C0
  ihave C1' := (Entails.of_eq (pts_c (F := F) d L 12800#32 (k0_off1_inb L 1) 1 rfl _).symm) $$ C1
  ihave O0' := (Entails.of_eq (pts_o (F := F) d L 0#32 0#32 (k0_off2_inb L 0 0) 0 0 rfl rfl _).symm) $$ O0
  ihave O1' := (Entails.of_eq (pts_o (F := F) d L 0#32 12800#32 (k0_off2_inb L 0 1) 0 1 rfl rfl _).symm) $$ O1
  ihave O2' := (Entails.of_eq (pts_o (F := F) d L 819200#32 0#32 (k0_off2_inb L 1 0) 1 0 rfl rfl _).symm) $$ O2
  ihave O3' := (Entails.of_eq (pts_o (F := F) d L 819200#32 12800#32 (k0_off2_inb L 1 1) 1 1 rfl rfl _).symm) $$ O3
  ihave O4' := (Entails.of_eq (pts_o (F := F) d L 1638400#32 0#32 (k0_off2_inb L 2 0) 2 0 rfl rfl _).symm) $$ O4
  ihave O5' := (Entails.of_eq (pts_o (F := F) d L 1638400#32 12800#32 (k0_off2_inb L 2 1) 2 1 rfl rfl _).symm) $$ O5
  iapply (wp_wand_r Idealize.ShloMosaic.frame (wpE (defs₀ (F := F)) 𝒱₀ (VT d L) none) Set.univ)
  isplitl [A0' A1' B0' B1' C0' C1' O0' O1' O2' O3' O4' O5' G0 G1 G2 G3 G4 G5 HC HO]
  · iapply (tile_run m d L O W g0 g1 g2 g3 g4 g5)
    icases HC with ⟨Hc0, Hc1, Hc2, Hc3, Hc4, Hc5, Hd0, Hd1, Hd2, Hd3, Hd4, Hd5⟩
    isplitr; · iexact Hmw
    sl_close
  iintro %_ ⟨K0, K1, G0, G1, G2, G3, G4, G5, HC, ⟨%W', HO⟩⟩
  isplitl [K0 K1]
  · isplitl [K0]; · iexact K0
    iexact K1
  isplitl [G0 G1 G2 G3 G4 G5 Hbufs]
  · isplitl [G0 G1 G2 G3 G4 G5]
    · isplitl [G0]; · iexact G0
      isplitl [G1]; · iexact G1
      isplitl [G2]; · iexact G2
      isplitl [G3]; · iexact G3
      isplitl [G4]; · iexact G4
      iexact G5
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

/-! ## The obligation -/

def coordsOf (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_kernel (coordsOf c s)
          aM (Memref.isWhole_whole _) bM (Memref.isWhole_whole _) cM (Memref.isWhole_whole _) oM (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7 cc0_scratch8 cc0_scratch9 cc0_scratch10 cc0_scratch11
          cc0_scratch12 cc0_scratch13 cc0_scratch14 cc0_scratch15 cc0_scratch16 cc0_scratch17) ⟨⟩ c s := rfl

theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsOf ⟨_, hci.1⟩ ⟨_, hci.2⟩) O W hO

end Cert.KernelIdeal.Wt

end
-- ==== Proof.KernelIdeal.Split.lean ====
/-
  The four arrays the subcores touch, whole, are the columns of all the subcores: the chunks are pairwise disjoint
  and cover, and the subcores' columns are the 64 columns, each once.
-/
module

public import proofs.«01_k».proof.Proof.KernelIdeal.Setup

@[expose] public section

noncomputable section

namespace Cert.KernelIdeal.Wt

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ)

/-! ## The numberings -/

/-- Core, subcore and half number the columns. -/
def colEquiv : (Fin 2 × Fin 16) × Fin 2 ≃ Fin 64 where
  toFun p := colOf p.1.1 p.1.2 p.2
  invFun k := ((⟨k.val / 2 % 2, by omega⟩, ⟨k.val / 4, by omega⟩), ⟨k.val % 2, by omega⟩)
  left_inv := by
    rintro ⟨⟨⟨c, hc⟩, ⟨i, hi⟩⟩, ⟨r, hr⟩⟩
    simp only [colOf, Prod.mk.injEq, Fin.mk.injEq]
    omega
  right_inv := by
    rintro ⟨k, hk⟩
    simp only [colOf, Fin.mk.injEq]
    omega

/-- Third and column number the result's chunks. -/
def chunkEquiv : Fin 3 × Fin 64 ≃ Fin 192 where
  toFun p := ochunk p.1 p.2
  invFun k := (⟨k.val / 64, by omega⟩, ⟨k.val % 64, by omega⟩)
  left_inv := by
    rintro ⟨⟨t, ht⟩, ⟨k, hk⟩⟩
    simp only [ochunk, Prod.mk.injEq, Fin.mk.injEq]
    omega
  right_inv := by
    rintro ⟨k, hk⟩
    simp only [ochunk, Fin.mk.injEq]
    omega

/-! ## The arrays as their chunks -/

theorem a_chunks (d : Dev nD) (f : Buf (Elt F) (aLoc d)) :
    (aLoc d ↦{fullShare} f : sProp 𝕄) = bigSep Finset.univ fun k : Fin 64 => aLoc d ↦[src k]{fullShare} f := by
  rw [← pointsTo_biUnion Finset.univ (ℓ := aLoc d) src fun _ _ _ _ h => Rect.part_disjoint div64 h]
  exact congrArg (fun S => (aLoc d ↦[S]{fullShare} f : sProp 𝕄)) (Rect.biUnion_part div64).symm
theorem b_chunks (d : Dev nD) (f : Buf (Elt F) (bLoc d)) :
    (bLoc d ↦{fullShare} f : sProp 𝕄) = bigSep Finset.univ fun k : Fin 64 => bLoc d ↦[src k]{fullShare} f := by
  rw [← pointsTo_biUnion Finset.univ (ℓ := bLoc d) src fun _ _ _ _ h => Rect.part_disjoint div64 h]
  exact congrArg (fun S => (bLoc d ↦[S]{fullShare} f : sProp 𝕄)) (Rect.biUnion_part div64).symm
theorem c_chunks (d : Dev nD) (f : Buf (Elt F) (cLoc d)) :
    (cLoc d ↦{fullShare} f : sProp 𝕄) = bigSep Finset.univ fun k : Fin 64 => cLoc d ↦[src k]{fullShare} f := by
  rw [← pointsTo_biUnion Finset.univ (ℓ := cLoc d) src fun _ _ _ _ h => Rect.part_disjoint div64 h]
  exact congrArg (fun S => (cLoc d ↦[S]{fullShare} f : sProp 𝕄)) (Rect.biUnion_part div64).symm
theorem o_chunks (d : Dev nD) (f : Buf (Elt F) (oLoc d)) :
    (oLoc d ↦{fullShare} f : sProp 𝕄)
      = bigSep Finset.univ fun k : Fin 64 => iprop((oLoc d ↦[dst 0 k]{fullShare} f) ∗ (oLoc d ↦[dst 1 k]{fullShare} f) ∗ (oLoc d ↦[dst 2 k]{fullShare} f)) := by
  have h1 : (oLoc d ↦{fullShare} f : sProp 𝕄)
      = bigSep Finset.univ fun k : Fin 192 => oLoc d ↦[(Rect.part (s := S2457600) (a₀ := 0) div192 k).set]{fullShare} f := by
    rw [← pointsTo_biUnion Finset.univ (ℓ := oLoc d) (fun k : Fin 192 => (Rect.part (s := S2457600) (a₀ := 0) div192 k).set)
      fun _ _ _ _ h => Rect.part_disjoint div192 h]
    exact congrArg (fun S => (oLoc d ↦[S]{fullShare} f : sProp 𝕄)) (Rect.biUnion_part div192).symm
  rw [h1, bigSep_univ_equiv chunkEquiv, BI.bigSep_univ_prod, bigSep_sep', bigSep_sep', show (Finset.univ : Finset (Fin 3)) = {0, 1, 2} by decide,
    SparseCore.bigSep_insert' (by decide), SparseCore.bigSep_insert' (by decide), bigSep_singleton]
  rfl

variable [FloatOps F]

/-- The four arrays whole are the subcores' pieces. -/
theorem pieces_eq (d : Dev nD) (f : Buf (Elt F) (oLoc d)) :
    (iprop((aLoc d ↦{fullShare} m (aLoc d)) ∗ (bLoc d ↦{fullShare} m (bLoc d)) ∗ (cLoc d ↦{fullShare} m (cLoc d)) ∗ (oLoc d ↦{fullShare} f)) : sProp 𝕄)
      = bigSep Finset.univ fun c : Fin 2 => bigSep Finset.univ fun i : Fin 16 => piece m d f c i := by
  rw [a_chunks, b_chunks, c_chunks, o_chunks, ← bigSep_sep', ← bigSep_sep', ← bigSep_sep', bigSep_univ_equiv colEquiv, BI.bigSep_univ_prod,
    BI.bigSep_univ_prod]
  exact bigSep_congr fun c _ => bigSep_congr fun i _ => bigSep_fin_two _

theorem st_eq (d : Dev nD) :
    (bigSep Finset.univ fun c : Fin ((K (F := F)).nCore 0) => (P m).st 0 d c)
      = iprop((aLoc d ↦{fullShare} m (aLoc d)) ∗ (bLoc d ↦{fullShare} m (bLoc d)) ∗ (cLoc d ↦{fullShare} m (cLoc d)) ∗ (oLoc d ↦{fullShare} m (oLoc d))) :=
  (pieces_eq m d (m (oLoc d))).symm
theorem dn_eq (d : Dev nD) :
    (bigSep Finset.univ fun c : Fin ((K (F := F)).nCore 0) => (P m).dn 0 d c)
      = iprop((aLoc d ↦{fullShare} m (aLoc d)) ∗ (bLoc d ↦{fullShare} m (bLoc d)) ∗ (cLoc d ↦{fullShare} m (cLoc d)) ∗ (oLoc d ↦{fullShare} vals m d)) :=
  (pieces_eq m d (vals m d)).symm

end Cert.KernelIdeal.Wt

end
-- ==== Proof.KernelIdeal.Values.lean ====
/-
  What the TensorCore kernel's three output blocks hold, as functions of its input blocks, and that the pieces it
  stores fill them so.
-/
module

public import proofs.«01_k».proof.Proof.Gen.KernelIdeal
public import Idealize.ShloMosaic.Lib.WritesUnit
public import Idealize.ShloMosaic.Lib.VecWindow
public import Idealize.ShloMosaic.Lib.Pipeline.Value

@[expose] public section

noncomputable section

namespace Cert.KernelIdeal.Wt

open Cert.KernelIdeal Cert.KernelIdeal.Gen
open Idealize.ShloMosaic

/-- The index of a vector of 16385 offsets at position `n`. -/
abbrev at16385 (n : ℕ) (h : n < 16385) : S16385.Idx := fun | 0 => ⟨n, h⟩

/-- The one index of a vector of length one. -/
abbrev at1 : S1.Idx := fun | 0 => ⟨0, Nat.one_pos⟩

/-- Of three offset vectors, the one of the `k`-th feature. -/
def pick (o1 o2 o3 : S16385.Idx → BitVec 32) (k : ℕ) : S16385.Idx → BitVec 32 :=
  if k = 0 then o1 else if k = 1 then o2 else o3

/-- Row `p` and column `q` of a 64 × 8192 block. -/
abbrev atX (p q : ℕ) (hp : p < 64) (hq : q < 8192) : S64x8192.Idx := fun | 0 => ⟨p, hp⟩ | 1 => ⟨q, hq⟩
/-- Row `p` and column `q` of an 8192 × 128 block. -/
abbrev atY (p q : ℕ) (hp : p < 8192) (hq : q < 128) : S8192x128.Idx := fun | 0 => ⟨p, hp⟩ | 1 => ⟨q, hq⟩

/-- Row `p` and column `q` of a 128 × 8192 block. -/
abbrev atZ (p q : ℕ) (hp : p < 128) (hq : q < 8192) : S128x8192.Idx := fun | 0 => ⟨p, hp⟩ | 1 => ⟨q, hq⟩

/-- The feature block: the 64 rows of `x`, and below them the 128 columns of `y` as rows. -/
def featBlk {α : Type} (x : S64x8192.Idx → α) (y : S8192x128.Idx → α) : S192x8192.Idx → α := fun z =>
  if h : (z 0).val < 64 then x (atX (z 0).val (z 1).val h (z 1).isLt)
  else y (atY (z 1).val ((z 0).val - 64) (z 1).isLt (by have : (z 0).val < 192 := (z 0).isLt; omega))

/-- The length vector: the differences of consecutive offsets, the three features one after another. -/
def lens (o1 o2 o3 : S16385.Idx → BitVec 32) : S49152.Idx → BitVec 32 := fun z =>
  pick o1 o2 o3 ((z 0).val / 16384) (at16385 ((z 0).val % 16384 + 1) (by omega))
    - pick o1 o2 o3 ((z 0).val / 16384) (at16385 ((z 0).val % 16384) (by omega))

/-- The length at place `n` of feature `k`. -/
theorem lens_at (o1 o2 o3 : S16385.Idx → BitVec 32) (z : S49152.Idx) (k n : ℕ) (hn : n < 16384) (hz : (z 0).val = 16384 * k + n) :
    lens o1 o2 o3 z = pick o1 o2 o3 k (at16385 (n + 1) (by omega)) - pick o1 o2 o3 k (at16385 n (by omega)) := by
  obtain rfl : k = (z 0).val / 16384 := by omega
  obtain rfl : n = (z 0).val % 16384 := by omega
  rfl

/-- The offset vector: each feature's offsets, moved so that it starts at zero and where the previous one ends. -/
def offs (o1 o2 o3 : S16385.Idx → BitVec 32) : S49153.Idx → BitVec 32 := fun z =>
  if h : (z 0).val < 16385 then o1 (at16385 (z 0).val h) - o1 (at16385 0 (by omega))
  else if h' : (z 0).val < 32769 then
    o2 (at16385 ((z 0).val - 16384) (by omega))
      + ((o1 (at16385 16384 (by omega)) - o1 (at16385 0 (by omega))) - o2 (at16385 0 (by omega)))
  else
    o3 (at16385 ((z 0).val - 32768) (by have : (z 0).val < 49153 := (z 0).isLt; omega))
      + ((((o1 (at16385 16384 (by omega)) - o1 (at16385 0 (by omega))) + o2 (at16385 16384 (by omega)))
          - o2 (at16385 0 (by omega))) - o3 (at16385 0 (by omega)))

section Reads

variable {κ : Kind} {sp : Space} {Val : EltTy → Type}

/-- A length block written in three thirds reads as the vector of which they are the thirds. -/
theorem read_thirds (v : View sig κ sp S49152 .i32) (f : v.ty.Contents Val) (g : S49152.Idx → Val .i32)
    (w1 w2 w3 : S16384.Idx → Val .i32)
    (h1 : ∀ (q : S16384.Idx) (z : S49152.Idx), (z 0).val = 0 + (q 0).val → w1 q = g z)
    (h2 : ∀ (q : S16384.Idx) (z : S49152.Idx), (z 0).val = 16384 + (q 0).val → w2 q = g z)
    (h3 : ∀ (q : S16384.Idx) (z : S49152.Idx), (z 0).val = 32768 + (q 0).val → w3 q = g z) :
    v.read Val (v.writes Val f [⟨Rect.unit ![32768] S16384.size inb_S49152_S16384_32768, w3⟩,
      ⟨Rect.unit ![16384] S16384.size inb_S49152_S16384_16384, w2⟩,
      ⟨Rect.unit ![0] S16384.size inb_S49152_S16384_0, w1⟩]) = g := by
  funext z
  have hz : (z 0).val < 49152 := (z 0).isLt
  by_cases c3 : 32768 ≤ (z 0).val
  · refine (View.read_writes_cons_unit_of_mem v f _ w3 _ z (fun | 0 => ⟨(z 0).val - 32768, by show _ < 16384; omega⟩) rfl
      fun | 0 => by show (z 0).val = 32768 + ((z 0).val - 32768); omega).trans (h3 _ z ?_)
    show (z 0).val = 32768 + ((z 0).val - 32768); omega
  refine (View.read_writes_cons_unit_of_not_mem v f _ w3 _ z rfl 0 (.inl (by show (z 0).val < 32768; omega))).trans ?_
  by_cases c2 : 16384 ≤ (z 0).val
  · refine (View.read_writes_cons_unit_of_mem v f _ w2 _ z (fun | 0 => ⟨(z 0).val - 16384, by show _ < 16384; omega⟩) rfl
      fun | 0 => by show (z 0).val = 16384 + ((z 0).val - 16384); omega).trans (h2 _ z ?_)
    show (z 0).val = 16384 + ((z 0).val - 16384); omega
  refine (View.read_writes_cons_unit_of_not_mem v f _ w2 _ z rfl 0 (.inl (by show (z 0).val < 16384; omega))).trans ?_
  refine (View.read_writes_cons_unit_of_mem v f _ w1 _ z (fun | 0 => ⟨(z 0).val, by show _ < 16384; omega⟩) rfl
      fun | 0 => by show (z 0).val = 0 + (z 0).val; omega).trans (h1 _ z ?_)
  show (z 0).val = 0 + (z 0).val; omega

/-- An offset block written in three parts, the first one longer by one, reads as the vector of which they are the parts. -/
theorem read_parts (v : View sig κ sp S49153 .i32) (f : v.ty.Contents Val) (g : S49153.Idx → Val .i32)
    (w1 : S16385.Idx → Val .i32) (w2 w3 : S16384.Idx → Val .i32)
    (h1 : ∀ (q : S16385.Idx) (z : S49153.Idx), (z 0).val = 0 + (q 0).val → w1 q = g z)
    (h2 : ∀ (q : S16384.Idx) (z : S49153.Idx), (z 0).val = 16385 + (q 0).val → w2 q = g z)
    (h3 : ∀ (q : S16384.Idx) (z : S49153.Idx), (z 0).val = 32769 + (q 0).val → w3 q = g z) :
    v.read Val (v.writes Val f [⟨Rect.unit ![32769] S16384.size inb_S49153_S16384_32769, w3⟩,
      ⟨Rect.unit ![16385] S16384.size inb_S49153_S16384_16385, w2⟩,
      ⟨Rect.unit ![0] S16385.size inb_S49153_S16385_0, w1⟩]) = g := by
  funext z
  have hz : (z 0).val < 49153 := (z 0).isLt
  by_cases c3 : 32769 ≤ (z 0).val
  · refine (View.read_writes_cons_unit_of_mem v f _ w3 _ z (fun | 0 => ⟨(z 0).val - 32769, by show _ < 16384; omega⟩) rfl
      fun | 0 => by show (z 0).val = 32769 + ((z 0).val - 32769); omega).trans (h3 _ z ?_)
    show (z 0).val = 32769 + ((z 0).val - 32769); omega
  refine (View.read_writes_cons_unit_of_not_mem v f _ w3 _ z rfl 0 (.inl (by show (z 0).val < 32769; omega))).trans ?_
  by_cases c2 : 16385 ≤ (z 0).val
  · refine (View.read_writes_cons_unit_of_mem v f _ w2 _ z (fun | 0 => ⟨(z 0).val - 16385, by show _ < 16384; omega⟩) rfl
      fun | 0 => by show (z 0).val = 16385 + ((z 0).val - 16385); omega).trans (h2 _ z ?_)
    show (z 0).val = 16385 + ((z 0).val - 16385); omega
  refine (View.read_writes_cons_unit_of_not_mem v f _ w2 _ z rfl 0 (.inl (by show (z 0).val < 16385; omega))).trans ?_
  refine (View.read_writes_cons_unit_of_mem v f _ w1 _ z (fun | 0 => ⟨(z 0).val, by show _ < 16385; omega⟩) rfl
      fun | 0 => by show (z 0).val = 0 + (z 0).val; omega).trans (h1 _ z ?_)
  show (z 0).val = 0 + (z 0).val; omega

/-- A feature block written in its upper 64 and its lower 128 rows reads as the block of which they are the rows. -/
theorem read_rows (v : View sig κ sp S192x8192 .f32) (f : v.ty.Contents Val) (g : S192x8192.Idx → Val .f32)
    (w1 : S64x8192.Idx → Val .f32) (w2 : S128x8192.Idx → Val .f32)
    (h1 : ∀ (q : S64x8192.Idx) (z : S192x8192.Idx), (z 0).val = 0 + (q 0).val → (z 1).val = 0 + (q 1).val → w1 q = g z)
    (h2 : ∀ (q : S128x8192.Idx) (z : S192x8192.Idx), (z 0).val = 64 + (q 0).val → (z 1).val = 0 + (q 1).val → w2 q = g z) :
    v.read Val (v.writes Val f [⟨Rect.unit ![64, 0] S128x8192.size inb_S192x8192_S128x8192_64_0, w2⟩,
      ⟨Rect.unit ![0, 0] S64x8192.size inb_S192x8192_S64x8192_0_0, w1⟩]) = g := by
  funext z
  have hz : (z 0).val < 192 := (z 0).isLt
  have hz1 : (z 1).val < 8192 := (z 1).isLt
  by_cases c2 : 64 ≤ (z 0).val
  · refine (View.read_writes_cons_unit_of_mem v f _ w2 _ z
      (atZ ((z 0).val - 64) (z 1).val (by omega) hz1) rfl
      fun | 0 => by show (z 0).val = 64 + ((z 0).val - 64); omega
          | 1 => by show (z 1).val = 0 + (z 1).val; omega).trans (h2 _ z ?_ ?_)
    · show (z 0).val = 64 + ((z 0).val - 64); omega
    · show (z 1).val = 0 + (z 1).val; omega
  refine (View.read_writes_cons_unit_of_not_mem v f _ w2 _ z rfl 0 (.inl (by show (z 0).val < 64; omega))).trans ?_
  refine (View.read_writes_cons_unit_of_mem v f _ w1 _ z
      (atX (z 0).val (z 1).val (by omega) hz1) rfl
      fun | 0 => by show (z 0).val = 0 + (z 0).val; omega
          | 1 => by show (z 1).val = 0 + (z 1).val; omega).trans (h1 _ z ?_ ?_)
  · show (z 0).val = 0 + (z 0).val; omega
  · show (z 1).val = 0 + (z 1).val; omega

end Reads

/-! ## The stored pieces -/

/-- Consecutive differences of a vector of offsets. -/
theorem diff_apply (o : S16385.Idx → BitVec 32) (q : S16384.Idx) :
    subi (extractStridedSlice S16384 ![1] o slices_S16385_o1_S16384)
        (extractStridedSlice S16384 ![0] o slices_S16385_o0_S16384) q
      = o (at16385 ((q 0).val + 1) (by have : (q 0).val < 16384 := (q 0).isLt; omega))
        - o (at16385 (q 0).val (by have : (q 0).val < 16384 := (q 0).isLt; omega)) := by
  unfold subi IntOp.subi
  rw [extractStridedSlice_apply ![1] o _ q (at16385 ((q 0).val + 1) (by have : (q 0).val < 16384 := (q 0).isLt; omega))
      (fun | 0 => Nat.add_comm _ _),
    extractStridedSlice_apply ![0] o _ q (at16385 (q 0).val (by have : (q 0).val < 16384 := (q 0).isLt; omega))
      (fun | 0 => (Nat.zero_add _).symm)]

/-- The first feature's offsets, started at zero. -/
theorem shift_first_apply (o : S16385.Idx → BitVec 32) (c : S1.Idx → BitVec 32) (q : S16385.Idx) :
    subi o (broadcastTo S16385 c broadcasts_S1_S16385) q = o q - c at1 := by
  unfold subi IntOp.subi
  rw [broadcastTo_apply c _ q at1 (fun | 0 => rfl)]

/-- A later feature's offsets without the first of them, moved by a constant. -/
theorem shift_apply (o : S16385.Idx → BitVec 32) (c : S1.Idx → BitVec 32) (q : S16384.Idx) :
    addi (extractStridedSlice S16384 ![1] o slices_S16385_o1_S16384) (broadcastTo S16384 c broadcasts_S1_S16384) q
      = o (at16385 ((q 0).val + 1) (by have : (q 0).val < 16384 := (q 0).isLt; omega)) + c at1 := by
  unfold addi IntOp.addi
  rw [extractStridedSlice_apply ![1] o _ q (at16385 ((q 0).val + 1) (by have : (q 0).val < 16384 := (q 0).isLt; omega))
      (fun | 0 => Nat.add_comm _ _),
    broadcastTo_apply c _ q at1 (fun | 0 => rfl)]

end Cert.KernelIdeal.Wt

end
-- ==== Proof.KernelIdeal.Dense.lean ====
/-
  The TensorCore kernel's body, run once at a symbolic grid point.
-/
module

public import proofs.«01_k».proof.Proof.KernelIdeal.Setup
public import proofs.«01_k».proof.Proof.KernelIdeal.Values
public import proofs.«01_k».proof.Proof.Gen.KernelIdeal.Launch
public import proofs.«01_k».proof.Proof.Gen.KernelIdeal.Points

@[expose] public section

noncomputable section

namespace Cert.KernelIdeal.Wt

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Memref `M`'s buffer on the TensorCore of device `d`: its contents type, and it held whole at `f`. -/
abbrev Bf (d : Dev nD) {sp : Space} {S : Shape} {e : EltTy} (M : Memref sig .tc sp S e) : Type := Buf (Elt F) (M.view.loc (d : Thread nD τ))
abbrev pt (d : Dev nD) {sp : Space} {S : Shape} {e : EltTy} (M : Memref sig .tc sp S e) (f : Bf (F := F) d M) : sProp 𝕄 :=
  M.view.loc (d : Thread nD τ) ↦{fullShare} f

/-- Memref `M`'s buffer held whole at contents that read as `x`. -/
abbrev rd (d : Dev nD) {sp : Space} {S : Shape} {e : EltTy} (M : Memref sig .tc sp S e) (x : S.Idx → Elt F e) : sProp 𝕄 :=
  iprop(∃ f : Bf (F := F) d M, ⌜M.view.read (Elt F) f = x⌝ ∗ pt d M f)

/-- The two pieces of the feature block. -/
theorem feat_eq {κ : Kind} {sp : Space} (v : View sig κ sp S192x8192 .f32) (f : v.ty.Contents (Elt F))
    (x : S64x8192.Idx → Elt F .f32) (y : S8192x128.Idx → Elt F .f32) :
    v.read (Elt F) (v.writes (Elt F) f [⟨Rect.unit ![64, 0] S128x8192.size inb_S192x8192_S128x8192_64_0, k1_pay2 y⟩,
      ⟨Rect.unit ![0, 0] S64x8192.size inb_S192x8192_S64x8192_0_0, k1_pay1 x⟩]) = featBlk x y := by
  refine read_rows v f _ _ _ (fun q z h0 h1 => ?_) (fun q z h0 h1 => ?_)
  · have hq : (q 0).val < 64 := (q 0).isLt
    unfold k1_pay1 featBlk
    rw [shapeCast_self, dif_pos (by omega)]
    exact congrArg x (funext fun | 0 => Fin.ext (by show (q 0).val = (z 0).val; omega)
                                 | 1 => Fin.ext (by show (q 1).val = (z 1).val; omega))
  · have hq : (q 0).val < 128 := (q 0).isLt
    unfold k1_pay2 featBlk
    rw [dif_neg (by omega)]
    exact transpose_apply [1, 0] y _ q _ fun | 0 => by show (z 0).val - 64 = (q 0).val; omega
                                             | 1 => by show (z 1).val = (q 1).val; omega

/-- The three pieces of the length block. -/
theorem lens_eq {κ : Kind} {sp : Space} (v : View sig κ sp S49152 .i32) (f : v.ty.Contents (Elt F))
    (o1 o2 o3 : S16385.Idx → BitVec 32) :
    v.read (Elt F) (v.writes (Elt F) f [⟨Rect.unit ![32768] S16384.size inb_S49152_S16384_32768, k1_pay5 (F := F) o3⟩,
      ⟨Rect.unit ![16384] S16384.size inb_S49152_S16384_16384, k1_pay4 (F := F) o2⟩,
      ⟨Rect.unit ![0] S16384.size inb_S49152_S16384_0, k1_pay3 (F := F) o1⟩]) = lens o1 o2 o3 := by
  refine read_thirds v f _ _ _ _ (fun q z h => ?_) (fun q z h => ?_) (fun q z h => ?_)
  · exact (diff_apply o1 q).trans (lens_at o1 o2 o3 z 0 _ (q 0).isLt (by omega)).symm
  · exact (diff_apply o2 q).trans (lens_at o1 o2 o3 z 1 _ (q 0).isLt (by omega)).symm
  · exact (diff_apply o3 q).trans (lens_at o1 o2 o3 z 2 _ (q 0).isLt (by omega)).symm

/-- A one-word load of an offset vector, at `n`. -/
theorem load_at {κ : Kind} {sp : Space} (v : View sig κ sp S16385 .i32) (f : v.ty.Contents (Elt F)) (n : ℕ)
    (inb : ∀ a, (![n] : Fin 1 → ℕ) a + S1.size a ≤ S16385.size a) (h : n < 16385) :
    v.readAt (Elt F) (Rect.unit (s := S16385) ![n] S1.size inb).toLoadRect f at1 = v.read (Elt F) f (at16385 n h) :=
  congrArg (v.read (Elt F) f) (funext fun | 0 => Fin.ext (by show n + 1 * 0 = n; omega))

/-- The three pieces of the offset block, over the single words they are moved by. -/
theorem offs_eq {κ : Kind} {sp : Space} (v : View sig κ sp S49153 .i32) (f : v.ty.Contents (Elt F))
    (o1 o2 o3 : S16385.Idx → BitVec 32) (a1 z1 a2 z2 z3 : S1.Idx → BitVec 32)
    (ha1 : a1 at1 = o1 (at16385 16384 (by omega))) (hz1 : z1 at1 = o1 (at16385 0 (by omega)))
    (ha2 : a2 at1 = o2 (at16385 16384 (by omega))) (hz2 : z2 at1 = o2 (at16385 0 (by omega)))
    (hz3 : z3 at1 = o3 (at16385 0 (by omega))) :
    v.read (Elt F) (v.writes (Elt F) f
      [⟨Rect.unit ![32769] S16384.size inb_S49153_S16384_32769, k1_pay8 (F := F) o3 z1 a1 a2 z2 z3⟩,
      ⟨Rect.unit ![16385] S16384.size inb_S49153_S16384_16385, k1_pay7 (F := F) o2 z1 a1 z2⟩,
      ⟨Rect.unit ![0] S16385.size inb_S49153_S16385_0, k1_pay6 (F := F) o1 z1⟩]) = offs o1 o2 o3 := by
  refine read_parts v f _ _ _ _ (fun q z h => ?_) (fun q z h => ?_) (fun q z h => ?_)
  · have hq : (q 0).val < 16385 := (q 0).isLt
    refine (shift_first_apply o1 z1 q).trans ?_
    unfold offs
    rw [dif_pos (by omega), hz1]
    exact congrArg (fun y => o1 y - _) (funext fun | 0 => Fin.ext (by show (q 0).val = (z 0).val; omega))
  · have hq : (q 0).val < 16384 := (q 0).isLt
    refine (shift_apply o2 _ q).trans ?_
    unfold offs
    rw [dif_neg (by omega), dif_pos (by omega)]
    refine (congrArg (_ + ·) (show _ = (a1 at1 - z1 at1) - z2 at1 from rfl)).trans ?_
    rw [ha1, hz1, hz2]
    exact congrArg (fun y => o2 y + _) (funext fun | 0 => Fin.ext (by show (q 0).val + 1 = (z 0).val - 16384; omega))
  · have hq : (q 0).val < 16384 := (q 0).isLt
    refine (shift_apply o3 _ q).trans ?_
    unfold offs
    rw [dif_neg (by omega), dif_neg (by omega)]
    refine (congrArg (_ + ·) (show _ = (((a1 at1 - z1 at1) + a2 at1) - z2 at1) - z3 at1 from rfl)).trans ?_
    rw [ha1, hz1, ha2, hz2, hz3]
    exact congrArg (fun y => o3 y + _) (funext fun | 0 => Fin.ext (by show (q 0).val + 1 = (z 0).val - 32768; omega))

/-- The body where its condition holds: the feature block of the two input blocks, and the length and offset vectors of
    the three offset vectors, whatever the output buffers held. -/
theorem dense_first (d : Dev nD) (i : grid1.Coords) (hi : k1_cond1 i = 1#1)
    (M1 : Memref sig .tc .vmem S64x8192 .f32) (h1 : M1.IsWhole) (M2 : Memref sig .tc .vmem S8192x128 .f32) (h2 : M2.IsWhole)
    (M3 : Memref sig .tc .vmem S16385 .i32) (h3 : M3.IsWhole) (M4 : Memref sig .tc .vmem S16385 .i32) (h4 : M4.IsWhole)
    (M5 : Memref sig .tc .vmem S16385 .i32) (h5 : M5.IsWhole) (M6 : Memref sig .tc .vmem S192x8192 .f32) (h6 : M6.IsWhole)
    (M7 : Memref sig .tc .vmem S49152 .i32) (h7 : M7.IsWhole) (M8 : Memref sig .tc .vmem S49153 .i32) (h8 : M8.IsWhole)
    (f1 : Bf (F := F) d M1) (f2 : Bf (F := F) d M2) (f3 : Bf (F := F) d M3) (f4 : Bf (F := F) d M4) (f5 : Bf (F := F) d M5)
    (f6 : Bf (F := F) d M6) (f7 : Bf (F := F) d M7) (f8 : Bf (F := F) d M8) (E : Set ℕ) (Q : PUnit → sProp 𝕄) :
    iprop(pt d M1 f1 ∗ pt d M2 f2 ∗ pt d M3 f3 ∗ pt d M4 f4 ∗ pt d M5 f5 ∗ pt d M6 f6 ∗ pt d M7 f7 ∗ pt d M8 f8
        ∗ (iprop(pt d M1 f1 ∗ pt d M2 f2 ∗ pt d M3 f3 ∗ pt d M4 f4 ∗ pt d M5 f5
            ∗ rd d M6 (featBlk (M1.view.read (Elt F) f1) (M2.view.read (Elt F) f2))
            ∗ rd d M7 (lens (M3.view.read (Elt F) f3) (M4.view.read (Elt F) f4) (M5.view.read (Elt F) f5))
            ∗ rd d M8 (offs (M3.view.read (Elt F) f3) (M4.view.read (Elt F) f4) (M5.view.read (Elt F) f5))) -∗ Q ⟨⟩))
      ⊢ wp frame (wpE (defs₀ (F := F)) 𝒱₀ (d : Thread nD τ) none) E
          (cc1__dense_body i M1 h1 M2 h2 M3 h3 M4 h4 M5 h5 M6 h6 M7 h7 M8 h8) Q := by
  iintro ⟨H1, H2, H3, H4, H5, H6, H7, H8, Hk⟩
  sl_unfold [cc1__dense_body]
  sl_exec (disch := sl_exact hi)
  sl_step
  iapply Hk
  isplitl [H1]; · iexact H1
  isplitl [H2]; · iexact H2
  isplitl [H3]; · iexact H3
  isplitl [H4]; · iexact H4
  isplitl [H5]; · iexact H5
  isplitl [H6]
  · iexists _; isplitr; swap; · iexact H6
    ipureintro
    rw [← View.readAt_full M1.view f1 inb_S64x8192_S64x8192_0_0, ← View.readAt_full M2.view f2 inb_S8192x128_S8192x128_0_0]
    exact feat_eq M6.view f6 _ _
  isplitl [H7]
  · iexists _; isplitr; swap; · iexact H7
    ipureintro
    rw [← View.readAt_full M3.view f3 inb_S16385_S16385_0, ← View.readAt_full M4.view f4 inb_S16385_S16385_0,
      ← View.readAt_full M5.view f5 inb_S16385_S16385_0]
    exact lens_eq M7.view f7 _ _ _
  iexists _; isplitr; swap; · iexact H8
  ipureintro
  have e3 := View.readAt_full M3.view f3 inb_S16385_S16385_0
  have e4 := View.readAt_full M4.view f4 inb_S16385_S16385_0
  have e5 := View.readAt_full M5.view f5 inb_S16385_S16385_0
  rw [← e3, ← e4, ← e5]
  exact offs_eq M8.view f8 _ _ _ (M3.view.readAt (Elt F) (Rect.unit (s := S16385) ![16384] S1.size inb_S16385_S1_16384).toLoadRect f3)
    (M3.view.readAt (Elt F) (Rect.unit (s := S16385) ![0] S1.size inb_S16385_S1_0).toLoadRect f3)
    (M4.view.readAt (Elt F) (Rect.unit (s := S16385) ![16384] S1.size inb_S16385_S1_16384).toLoadRect f4)
    (M4.view.readAt (Elt F) (Rect.unit (s := S16385) ![0] S1.size inb_S16385_S1_0).toLoadRect f4)
    (M5.view.readAt (Elt F) (Rect.unit (s := S16385) ![0] S1.size inb_S16385_S1_0).toLoadRect f5)
    ((load_at _ _ _ _ (by omega)).trans (congrFun e3 _).symm) ((load_at _ _ _ _ (by omega)).trans (congrFun e3 _).symm)
    ((load_at _ _ _ _ (by omega)).trans (congrFun e4 _).symm) ((load_at _ _ _ _ (by omega)).trans (congrFun e4 _).symm)
    ((load_at _ _ _ _ (by omega)).trans (congrFun e5 _).symm)

/-- The body where its condition fails: the feature block alone; the length and offset buffers are left as they were. -/
theorem dense_rest (d : Dev nD) (i : grid1.Coords) (hi : ¬ k1_cond1 i = 1#1)
    (M1 : Memref sig .tc .vmem S64x8192 .f32) (h1 : M1.IsWhole) (M2 : Memref sig .tc .vmem S8192x128 .f32) (h2 : M2.IsWhole)
    (M3 : Memref sig .tc .vmem S16385 .i32) (h3 : M3.IsWhole) (M4 : Memref sig .tc .vmem S16385 .i32) (h4 : M4.IsWhole)
    (M5 : Memref sig .tc .vmem S16385 .i32) (h5 : M5.IsWhole) (M6 : Memref sig .tc .vmem S192x8192 .f32) (h6 : M6.IsWhole)
    (M7 : Memref sig .tc .vmem S49152 .i32) (h7 : M7.IsWhole) (M8 : Memref sig .tc .vmem S49153 .i32) (h8 : M8.IsWhole)
    (f1 : Bf (F := F) d M1) (f2 : Bf (F := F) d M2) (f6 : Bf (F := F) d M6) (E : Set ℕ) (Q : PUnit → sProp 𝕄) :
    iprop(pt d M1 f1 ∗ pt d M2 f2 ∗ pt d M6 f6
        ∗ (iprop(pt d M1 f1 ∗ pt d M2 f2
            ∗ rd d M6 (featBlk (M1.view.read (Elt F) f1) (M2.view.read (Elt F) f2))) -∗ Q ⟨⟩))
      ⊢ wp frame (wpE (defs₀ (F := F)) 𝒱₀ (d : Thread nD τ) none) E
          (cc1__dense_body i M1 h1 M2 h2 M3 h3 M4 h4 M5 h5 M6 h6 M7 h7 M8 h8) Q := by
  iintro ⟨H1, H2, H6, Hk⟩
  sl_unfold [cc1__dense_body]
  sl_exec (disch := sl_exact hi)
  sl_step
  iapply Hk
  isplitl [H1]; · iexact H1
  isplitl [H2]; · iexact H2
  iexists _; isplitr; swap; · iexact H6
  ipureintro
  rw [← View.readAt_full M1.view f1 inb_S64x8192_S64x8192_0_0, ← View.readAt_full M2.view f2 inb_S8192x128_S8192x128_0_0]
  exact feat_eq M6.view f6 _ _

end Cert.KernelIdeal.Wt

end
-- ==== Proof.KernelIdeal.Region.lean ====
/-
  The TensorCore kernel's pipelined region: what its staging buffers hold at each of the two grid points, and the
  region entered from any contents of the HBM buffers and left with its three results filled.
-/
module

public import proofs.«01_k».proof.Proof.KernelIdeal.Dense
public import Idealize.ShloMosaic.Lib.Pipeline.Regions
public import Idealize.ShloMosaic.Lib.Pipeline.ValueKit

@[expose] public section

noncomputable section

namespace Cert.KernelIdeal.Wt

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

-- what the HBM buffers hold when the region is entered
variable (V : (d : Dev nD) → (b : Ref sig .tc) → Buf (Elt F) ((d : Thread nD τ).loc b))
-- a bound on the levels of the waits the TensorCore has made before the region
variable (lim : ℕ)

/-! ## The blocks as fetched -/

abbrev xBlk (d : Dev nD) (t : Fin cfg1.N) : S64x8192.Idx → Elt F .f32 := ((cfg1.win 0).blk t).view.read (Elt F) (V d main_v1)
abbrev yBlk (d : Dev nD) (t : Fin cfg1.N) : S8192x128.Idx → Elt F .f32 := ((cfg1.win 1).blk t).view.read (Elt F) (V d main_arg1)
abbrev o1Blk (d : Dev nD) : S16385.Idx → BitVec 32 := ((cfg1.win 2).blk t1_0).view.read (Elt F) (V d main_arg3)
abbrev o2Blk (d : Dev nD) : S16385.Idx → BitVec 32 := ((cfg1.win 3).blk t1_0).view.read (Elt F) (V d main_arg5)
abbrev o3Blk (d : Dev nD) : S16385.Idx → BitVec 32 := ((cfg1.win 4).blk t1_0).view.read (Elt F) (V d main_arg7)

/-- The proof data: the arrays at `V`; after the body the input buffers as fetched, the feature buffer at the feature
    block of the point's blocks, and the length and offset buffers, at both points, at the vectors of the whole arrays. -/
def dat (d : Dev nD) : Dat τ (Elt F) (HIx 1) ℕ UU ℕ cfg1 d where
  A w := V d (Pipeline.arrRef spec1 w)
  after w t := match w with
    | ⟨0, _⟩ => xBlk V d t
    | ⟨1, _⟩ => yBlk V d t
    | ⟨2, _⟩ => o1Blk V d
    | ⟨3, _⟩ => o2Blk V d
    | ⟨4, _⟩ => o3Blk V d
    | ⟨5, _⟩ => featBlk (xBlk V d t) (yBlk V d t)
    | ⟨6, _⟩ => lens (o1Blk V d) (o2Blk V d) (o3Blk V d)
    | ⟨7, _⟩ => offs (o1Blk V d) (o2Blk V d) (o3Blk V d)
  Φ _ := Pipeline.scopedRest (Ix := HIx 1) (Name := ℕ) (U := UU) (Lvl := ℕ) (Val := Elt F) spec1 d
  q _ := fullShare
  owed _ := 0
  recorded _ := {p | (K (F := F)).lev ((d : Thread nD τ), p.1) p.2 ≤ lim}

/-! ## What the buffers hold when the body runs -/

theorem before_x (d : Dev nD) (t : Fin cfg1.N) (e : (cfg1.win 0).block.Idx → Elt F (cfg1.win 0).elt) :
    (dat V lim d).before 0 t e = xBlk V d t := by
  unfold Dat.before; rw [if_pos (fetch1_0 t)]; rfl

theorem before_y (d : Dev nD) (t : Fin cfg1.N) (e : (cfg1.win 1).block.Idx → Elt F (cfg1.win 1).elt) :
    (dat V lim d).before 1 t e = yBlk V d t := by
  unfold Dat.before; rw [if_pos (fetch1_1 t)]; rfl

theorem before_o1 (d : Dev nD) (t : Fin cfg1.N) (e : (cfg1.win 2).block.Idx → Elt F (cfg1.win 2).elt) :
    (dat V lim d).before 2 t e = o1Blk V d := by
  rcases fin_N1 t with rfl | rfl
  · unfold Dat.before; rw [if_pos (by decide)]; rfl
  · rw [Dat.before_of_pos _ _ _ (by decide) (by decide), if_neg (by decide)]; rfl

theorem before_o2 (d : Dev nD) (t : Fin cfg1.N) (e : (cfg1.win 3).block.Idx → Elt F (cfg1.win 3).elt) :
    (dat V lim d).before 3 t e = o2Blk V d := by
  rcases fin_N1 t with rfl | rfl
  · unfold Dat.before; rw [if_pos (by decide)]; rfl
  · rw [Dat.before_of_pos _ _ _ (by decide) (by decide), if_neg (by decide)]; rfl

theorem before_o3 (d : Dev nD) (t : Fin cfg1.N) (e : (cfg1.win 4).block.Idx → Elt F (cfg1.win 4).elt) :
    (dat V lim d).before 4 t e = o3Blk V d := by
  rcases fin_N1 t with rfl | rfl
  · unfold Dat.before; rw [if_pos (by decide)]; rfl
  · rw [Dat.before_of_pos _ _ _ (by decide) (by decide), if_neg (by decide)]; rfl

theorem before_l (d : Dev nD) (e : (cfg1.win 6).block.Idx → Elt F (cfg1.win 6).elt) :
    (dat V lim d).before 6 t1_1 e = lens (o1Blk V d) (o2Blk V d) (o3Blk V d) := by
  rw [Dat.before_of_pos _ _ _ (by decide) (by decide), if_neg (by decide)]
  rfl

theorem before_s (d : Dev nD) (e : (cfg1.win 7).block.Idx → Elt F (cfg1.win 7).elt) :
    (dat V lim d).before 7 t1_1 e = offs (o1Blk V d) (o2Blk V d) (o3Blk V d) := by
  rw [Dat.before_of_pos _ _ _ (by decide) (by decide), if_neg (by decide)]
  rfl

theorem cond_zero : k1_cond1 (grid1.coords t1_0) = 1#1 := by decide
theorem cond_one : ¬ k1_cond1 (grid1.coords t1_1) = 1#1 := by decide

/-- Owning a whole memref at contents `X` is holding its buffer at something that reads `X`. -/
theorem owns_rd (d : Dev nD) {sp : Space} {S : Shape} {e : EltTy} (M : Memref sig .tc sp S e) (h : M.IsWhole)
    (X : S.Idx → Elt F e) : (owns (d : Thread nD τ) M fullShare X : sProp 𝕄) = rd d M X := by
  unfold owns rd pt
  rw [h.set_eq_univ]

/-- The same for a window's staging buffer. -/
theorem owns_win (d : Dev nD) (t : Fin cfg1.N) (w : Fin cfg1.W) (X : (cfg1.win w).block.Idx → Elt F (cfg1.win w).elt) :
    (owns (d : Thread nD τ) ((cfg1.win w).stage (cfg1.slots t w)) fullShare X : sProp 𝕄)
      = rd d ((cfg1.win w).stage (cfg1.slots t w)) X :=
  owns_rd d _ (stage_whole1 w _) X

/-- The body's obligation at each point: at the first one the body fills all three outputs, at the second the feature
    block only, the other two still holding what the first left. -/
theorem body_obligation (d : Dev nD) : BodyObligation (dat V lim d) (defs₀ (F := F)) 𝒱₀ none Set.univ := fun t => by
  rw [bigSep_W1, bigSep_W1]
  simp only [owns_win d t 0, owns_win d t 1, owns_win d t 2, owns_win d t 3, owns_win d t 4, owns_win d t 5, owns_win d t 6, owns_win d t 7]
  rw [show (dat V lim d).Φ t.castSucc = Pipeline.scopedRest spec1 d from rfl,
    show (dat V lim d).Φ t.succ = Pipeline.scopedRest spec1 d from rfl,
    show (dat V lim d).owesAt none t.succ = (dat V lim d).owesAt none t.castSucc from rfl]
  rw [show defs₀ .tc 1 (t, cfg1.slots t) = bodyAt1 t from rfl]
  unfold bodyAt1
  rcases fin_N1 t with rfl | rfl
  · iintro ⟨HΦ, Howes, ⟨%d0, %f0, %h0, H0⟩, ⟨%d1, %f1, %h1, H1⟩, ⟨%d2, %f2, %h2, H2⟩, ⟨%d3, %f3, %h3, H3⟩, ⟨%d4, %f4, %h4, H4⟩,
      ⟨%d5, %f5, -, H5⟩, ⟨%d6, %f6, -, H6⟩, ⟨%d7, %f7, -, H7⟩⟩
    rw [before_x] at h0; rw [before_y] at h1; rw [before_o1] at h2; rw [before_o2] at h3; rw [before_o3] at h4
    iapply (dense_first d _ cond_zero _ _ _ _ _ _ _ _ _ _ _ _ _ _ _ _ f0 f1 f2 f3 f4 f5 f6 f7 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    rw [h0, h1, h2, h3, h4, show idle1 6 (grid1.coords t1_0) = false by decide]
    iintro ⟨H0, H1, H2, H3, H4, H5, H6, H7⟩
    isplitl [HΦ]; · iexact HΦ
    isplitl [Howes]; · iexact Howes
    isplitl [H0]; · iexists f0; isplitr; · ipureintro; exact h0
                    iexact H0
    isplitl [H1]; · iexists f1; isplitr; · ipureintro; exact h1
                    iexact H1
    isplitl [H2]; · iexists f2; isplitr; · ipureintro; exact h2
                    iexact H2
    isplitl [H3]; · iexists f3; isplitr; · ipureintro; exact h3
                    iexact H3
    isplitl [H4]; · iexists f4; isplitr; · ipureintro; exact h4
                    iexact H4
    isplitl [H5]; · iexact H5
    isplitl [H6]; · iexact H6
    iexact H7
  · iintro ⟨HΦ, Howes, ⟨%d0, %f0, %h0, H0⟩, ⟨%d1, %f1, %h1, H1⟩, ⟨%d2, %f2, %h2, H2⟩, ⟨%d3, %f3, %h3, H3⟩, ⟨%d4, %f4, %h4, H4⟩,
      ⟨%d5, %f5, -, H5⟩, ⟨%d6, %f6, %h6, H6⟩, ⟨%d7, %f7, %h7, H7⟩⟩
    rw [before_x] at h0; rw [before_y] at h1; rw [before_o1] at h2; rw [before_o2] at h3; rw [before_o3] at h4
    rw [before_l] at h6; rw [before_s] at h7
    iapply (dense_rest d _ cond_one _ _ _ _ _ _ _ _ _ _ _ _ _ _ _ _ f0 f1 f5 Set.univ _)
    isplitl [H0]; · iexact H0
    isplitl [H1]; · iexact H1
    isplitl [H5]; · iexact H5
    rw [h0, h1, show idle1 6 (grid1.coords t1_1) = true by decide,
      show (win1 6).flush t1_1 = true by decide, show (win1 7).flush t1_1 = true by decide]
    iintro ⟨H0, H1, H5⟩
    isplitl [HΦ]; · iexact HΦ
    isplitl [Howes]; · iexact Howes
    isplitl [H0]; · iexists f0; isplitr; · ipureintro; exact h0
                    iexact H0
    isplitl [H1]; · iexists f1; isplitr; · ipureintro; exact h1
                    iexact H1
    isplitl [H2]; · iexists f2; isplitr; · ipureintro; exact h2
                    iexact H2
    isplitl [H3]; · iexists f3; isplitr; · ipureintro; exact h3
                    iexact H3
    isplitl [H4]; · iexists f4; isplitr; · ipureintro; exact h4
                    iexact H4
    isplitl [H5]; · iexact H5
    isplitl [H6]; · iexists f6; isplitr; · ipureintro; exact h6
                    iexact H6
    iexists f7; isplitr; · ipureintro; exact h7
    iexact H7

/-! ## The region -/

variable (adm : (p : Fin 1) → (pcfgs (F := F) p).Adm)

/-- The family of proof data over the program's one pipeline. -/
def pdats : (p : Fin 1) → (d : Dev nD) → Dat τ (Elt F) (HIx 1) ℕ UU ℕ (Pipeline.pin (pcfgs (F := F)) adm p) d
  | ⟨0, _⟩ => fun d => dat V lim d

-- what the HBM buffers hold when the region is left: the three results as the write-backs leave them, the others as before
variable (Vp : (d : Dev nD) → (b : Ref sig .tc) → Buf (Elt F) ((d : Thread nD τ).loc b))

-- the launch's lemmas are stated at the pinned configuration, the data at the configuration itself
set_option backward.isDefEq.respectTransparency.types false in
/-- The region over the TensorCore's state: every HBM buffer at `V`, nothing owed, the waits so far at levels up to
    `lim`; left with the HBM buffers at `Vp` and the same bound. -/
def reg (hV0 : ∀ d, Vp d main_v2_0 = (dat V lim d).arrAt 5 cfg1.N) (hV1 : ∀ d, Vp d main_v2_1 = (dat V lim d).arrAt 6 cfg1.N)
    (hV2 : ∀ d, Vp d main_v2_2 = (dat V lim d).arrAt 7 cfg1.N)
    (hne : ∀ d (b : Ref sig .tc), b ≠ main_v2_0 → b ≠ main_v2_1 → b ≠ main_v2_2 → Vp d b = V d b) :
    Pipeline.RegionSeg (pcfgs (F := F)) adm (pdats V lim adm) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody d := (body_obligation V lim d).loose
  hwaits := Pipeline.hwaits_of_owed_zero _ _ _ _ (K (F := F)).L (K (F := F)).lev 0 fun _ _ => rfl
  pre d := iprop(unscopedBufs d (V d) ∗ ∃ W, ⌜(K (F := F)).WBelow (d : Thread nD τ) W lim⌝
    ∗ owes (d : Thread nD τ) (0 : CellTallies nD τ sig (HIx 1)) W)
  post d := iprop(unscopedBufs d (Vp d) ∗ ∃ W, ⌜(K (F := F)).WBelow (d : Thread nD τ) W lim⌝
    ∗ owes (d : Thread nD τ) (0 : CellTallies nD τ sig (HIx 1)) W)
  X _ := BI.emp
  Y _ := BI.emp
  Z d := Pipeline.unscopedRest (Ix := HIx 1) (Name := ℕ) (U := UU) (Lvl := ℕ) spec1 d (V d)
  hentry d := by
    rw [Pipeline.ownSems0_none]
    iintro ⟨⟨Hub, %W, %hW, HO⟩, -, -⟩
    ihave H := (Pipeline.arrays_of_unscopedBufs (p := 0) (pcfgs (F := F)) adm (pdats V lim adm) launch1.win
      launch1.arr_whole d ((pdats V lim adm 0 d).share_full fun _ => rfl) (V d) fun _ => rfl) $$ Hub
    icases H with ⟨Ha, Hrest⟩
    imodintro
    isplitl [Ha]; · iexact Ha
    isplitr
    · unfold Pipeline.prefHeld
      rw [show (Finset.univ : Finset (Fin 0)) = ∅ from rfl, BI.bigSep_empty]
      iempintro
    isplitl [HO]
    · unfold Pipeline.Dat.owesAt Pipeline.owesWithin
      iexists W
      isplitr
      · ipureintro
        exact fun p hp => Or.inl (hW p hp)
      iexact HO
    isplitr; · iempintro
    iexact Hrest
  hin d := by
    rw [show (pdats V lim adm 0 d).Φ 0 = Pipeline.scopedRest spec1 d from rfl]
    iintro ⟨-, -, Hr⟩
    iexact Hr
  hout d := by
    rw [Pipeline.ownSems0_none, show (pdats V lim adm 0 d).Φ (Fin.last _) = Pipeline.scopedRest spec1 d from rfl]
    iintro Hr
    isplitr; · iempintro
    isplitr; · iempintro
    iexact Hr
  hexit d := by
    iintro ⟨Ha, HO, -, Hrest⟩
    imodintro
    isplitl [Ha Hrest]
    · iapply (Pipeline.unscopedBufs_of_arrays (p := 0) (pcfgs (F := F)) adm (Ix := HIx 1) (Name := ℕ) (U := UU) (Lvl := ℕ)
        launch1.win launch1.arr_whole d (pdats V lim adm) ((pdats V lim adm 0 d).share_full fun _ => rfl)
        (V d) (Vp d) ((pdats V lim adm 0 d).arrAt · cfg1.N)
        (fun w => by
          fin_cases w
          · exact ((pdats V lim adm 0 d).arrAt_in 0 rfl _).trans (hne d main_v1 (by decide) (by decide) (by decide)).symm
          · exact ((pdats V lim adm 0 d).arrAt_in 1 rfl _).trans (hne d main_arg1 (by decide) (by decide) (by decide)).symm
          · exact ((pdats V lim adm 0 d).arrAt_in 2 rfl _).trans (hne d main_arg3 (by decide) (by decide) (by decide)).symm
          · exact ((pdats V lim adm 0 d).arrAt_in 3 rfl _).trans (hne d main_arg5 (by decide) (by decide) (by decide)).symm
          · exact ((pdats V lim adm 0 d).arrAt_in 4 rfl _).trans (hne d main_arg7 (by decide) (by decide) (by decide)).symm
          · exact (hV0 d).symm
          · exact (hV1 d).symm
          · exact (hV2 d).symm)
        (fun b hb => hne d b (fun h => hb (h ▸ Finset.mem_image.mpr ⟨5, Finset.mem_univ _, rfl⟩))
          (fun h => hb (h ▸ Finset.mem_image.mpr ⟨6, Finset.mem_univ _, rfl⟩))
          (fun h => hb (h ▸ Finset.mem_image.mpr ⟨7, Finset.mem_univ _, rfl⟩))))
      isplitl [Ha] <;> iassumption
    unfold Pipeline.Dat.owesAt Pipeline.owesWithin
    icases HO with ⟨%W, %hW, HO⟩
    iexists W
    isplitr
    · ipureintro
      intro p hp
      rcases hW hp with h | ⟨w, s, rfl⟩
      · exact h
      · exact Nat.zero_le _
    iexact HO

end Cert.KernelIdeal.Wt

end
-- ==== Proof.KernelIdeal.Arrays.lean ====
/-
  What the three results of the TensorCore kernel hold after its region, as functions of the arrays it reads.
-/
module

public import proofs.«01_k».proof.Proof.KernelIdeal.Region

@[expose] public section

noncomputable section

namespace Cert.KernelIdeal.Wt

open Cert.KernelIdeal Cert.KernelIdeal.Gen

open Idealize.ShloMosaic
open Idealize.ShloMosaic.TcCoe
open Idealize.ShloMosaic.Pipeline (Dat Cfg Window)

variable {F : FTy → Type} [FloatOps F]

/-- Row `p` and column `q` of the transposed embeddings. -/
abbrev atXs (p q : ℕ) (hp : p < 64) (hq : q < 16384) : S64x16384.Idx := fun | 0 => ⟨p, hp⟩ | 1 => ⟨q, hq⟩
/-- Row `p` and column `q` of the second feature array. -/
abbrev atYs (p q : ℕ) (hp : p < 16384) (hq : q < 128) : S16384x128.Idx := fun | 0 => ⟨p, hp⟩ | 1 => ⟨q, hq⟩

/-- The feature array: the 64 rows of `x`, and below them the 128 columns of `y` as rows. -/
def feat {α : Type} (x : S64x16384.Idx → α) (y : S16384x128.Idx → α) : S192x16384.Idx → α := fun z =>
  if h : (z 0).val < 64 then x (atXs (z 0).val (z 1).val h (z 1).isLt)
  else y (atYs (z 1).val ((z 0).val - 64) (z 1).isLt (by have : (z 0).val < 192 := (z 0).isLt; omega))

variable (V : (d : Dev nD) → (b : Ref sig .tc) → Buf (Elt F) ((d : Thread nD τ).loc b)) (lim : ℕ)

/-- An offset array's one block is the array. -/
theorem o1Blk_eq (d : Dev nD) : o1Blk V d = V d main_arg3 := by
  funext y
  show V d main_arg3 (((cfg1.win 2).blk t1_0).view.emb y) = V d main_arg3 y
  congr 1
  funext (a : Fin 1)
  apply Fin.ext
  blk_simp
  fin_cases a
  show 0 * 16385 + (y 0).val = (y 0).val
  omega

theorem o2Blk_eq (d : Dev nD) : o2Blk V d = V d main_arg5 := by
  funext y
  show V d main_arg5 (((cfg1.win 3).blk t1_0).view.emb y) = V d main_arg5 y
  congr 1
  funext (a : Fin 1)
  apply Fin.ext
  blk_simp
  fin_cases a
  show 0 * 16385 + (y 0).val = (y 0).val
  omega

theorem o3Blk_eq (d : Dev nD) : o3Blk V d = V d main_arg7 := by
  funext y
  show V d main_arg7 (((cfg1.win 4).blk t1_0).view.emb y) = V d main_arg7 y
  congr 1
  funext (a : Fin 1)
  apply Fin.ext
  blk_simp
  fin_cases a
  show 0 * 16385 + (y 0).val = (y 0).val
  omega

/-- Block `t` of `x` begins at column `8192 * t`. -/
theorem xBlk_at (d : Dev nD) (t : Fin cfg1.N) (p q : ℕ) (hp : p < 64) (hq : q < 8192) (hq' : 8192 * t.val + q < 16384) :
    xBlk V d t (atX p q hp hq) = V d main_v1 (atXs p (8192 * t.val + q) hp hq') := by
  show V d main_v1 (((cfg1.win 0).blk t).view.emb (atX p q hp hq)) = _
  congr 1
  funext (a : Fin 2)
  apply Fin.ext
  blk_simp
  rcases fin_N1 t with rfl | rfl <;> fin_cases a
  · show 0 * 64 + p = p; omega
  · show 0 * 8192 + q = 8192 * 0 + q; omega
  · show 0 * 64 + p = p; omega
  · show 1 * 8192 + q = 8192 * 1 + q; omega

/-- Block `t` of `y` begins at row `8192 * t`. -/
theorem yBlk_at (d : Dev nD) (t : Fin cfg1.N) (p q : ℕ) (hp : p < 8192) (hq : q < 128) (hp' : 8192 * t.val + p < 16384) :
    yBlk V d t (atY p q hp hq) = V d main_arg1 (atYs (8192 * t.val + p) q hp' hq) := by
  show V d main_arg1 (((cfg1.win 1).blk t).view.emb (atY p q hp hq)) = _
  congr 1
  funext (a : Fin 2)
  apply Fin.ext
  blk_simp
  rcases fin_N1 t with rfl | rfl <;> fin_cases a
  · show 0 * 8192 + p = 8192 * 0 + p; omega
  · show 0 * 128 + q = q; omega
  · show 1 * 8192 + p = 8192 * 1 + p; omega
  · show 0 * 128 + q = q; omega

/-- Block `t` of the feature array begins at column `8192 * t`. -/
theorem featBlk_at (d : Dev nD) (t : Fin cfg1.N) (z : S192x8192.Idx) (Z : S192x16384.Idx) (h0 : (Z 0).val = (z 0).val)
    (h1 : (Z 1).val = 8192 * t.val + (z 1).val) :
    featBlk (xBlk V d t) (yBlk V d t) z = feat (V d main_v1) (V d main_arg1) Z := by
  have hZ : (Z 1).val < 16384 := (Z 1).isLt
  unfold featBlk feat
  by_cases h : (z 0).val < 64
  · rw [dif_pos h, dif_pos (h0 ▸ h)]
    refine (xBlk_at V d t _ _ _ _ (h1 ▸ hZ)).trans ?_
    congr 1
    funext (a : Fin 2)
    fin_cases a
    · exact Fin.ext h0.symm
    · exact Fin.ext h1.symm
  · rw [dif_neg h, dif_neg (h0 ▸ h)]
    refine (yBlk_at V d t _ _ _ _ (h1 ▸ hZ)).trans ?_
    congr 1
    funext (a : Fin 2)
    fin_cases a
    · exact Fin.ext h1.symm
    · exact Fin.ext (by show (z 0).val - 64 = (Z 0).val - 64; omega)

/-- The first result of the region. -/
theorem arr_feat (d : Dev nD) : (dat V lim d).arrAt 5 cfg1.N = feat (V d main_v1) (V d main_arg1) := by
  refine (dat V lim d).arrAt_eq_of_covers 5 _ (by decide +kernel) fun t hf y => ?_
  blk_simp
  refine featBlk_at V d t y _ ?_ ?_
  · blk_simp
    rcases fin_N1 t with rfl | rfl
    · show 0 * 192 + _ = _; omega
    · show 0 * 192 + _ = _; omega
  · blk_simp
    rcases fin_N1 t with rfl | rfl
    · show 0 * 8192 + _ = 8192 * 0 + _; omega
    · show 1 * 8192 + _ = 8192 * 1 + _; omega

/-- The second result of the region. -/
theorem arr_lens (d : Dev nD) :
    (dat V lim d).arrAt 6 cfg1.N = lens (V d main_arg3) (V d main_arg5) (V d main_arg7) := by
  refine (dat V lim d).arrAt_eq_of_after_last 6 t1_1 (by decide +kernel) _ fun j => ?_
  blk_simp
  show lens (o1Blk V d) (o2Blk V d) (o3Blk V d) j = _
  rw [o1Blk_eq, o2Blk_eq, o3Blk_eq]

/-- The third result of the region. -/
theorem arr_offs (d : Dev nD) :
    (dat V lim d).arrAt 7 cfg1.N = offs (V d main_arg3) (V d main_arg5) (V d main_arg7) := by
  refine (dat V lim d).arrAt_eq_of_after_last 7 t1_1 (by decide +kernel) _ fun j => ?_
  blk_simp
  show offs (o1Blk V d) (o2Blk V d) (o3Blk V d) j = _
  rw [o1Blk_eq, o2Blk_eq, o3Blk_eq]

end Cert.KernelIdeal.Wt

end
-- ==== Proof.KernelIdeal.Stages.lean ====
/-
  What the HBM buffers hold between the four statements of the program, and what the arguments and the results hold
  at its end.
-/
module

public import proofs.«01_k».proof.Proof.KernelIdeal.Setup
public import proofs.«01_k».proof.Proof.KernelIdeal.Arrays

@[expose] public section

noncomputable section

namespace Cert.KernelIdeal.Wt

open Cert.KernelIdeal Cert.KernelIdeal.Gen

open Idealize.ShloMosaic
open Idealize.ShloMosaic.TcCoe

variable {F : FTy → Type} [FloatOps F]

variable (m : (ℓ : Loc nD τ sig) → Buf (Elt F) ℓ)

/-- The program's two transpositions. -/
abbrev op1 : HloOp τ sig (Elt F) :=
  StableHlo.unary main_arg0 main_v1 ((transpose S64x16384 [1, 0] · transposes_S16384x64_S64x16384_1_0) : (⟨S16384x64, .f32⟩ : BufTy).Contents (Elt F) → (⟨S64x16384, .f32⟩ : BufTy).Contents (Elt F))
abbrev op2 : HloOp τ sig (Elt F) :=
  StableHlo.unary main_v2_0 main_v3 ((transpose S16384x192 [1, 0] · transposes_S192x16384_S16384x192_1_0) : (⟨S192x16384, .f32⟩ : BufTy).Contents (Elt F) → (⟨S16384x192, .f32⟩ : BufTy).Contents (Elt F))

/-- At launch. -/
def V0 (d : Dev nD) : Valuation τ sig (Elt F) := fun b => m (d, b)
/-- After the SparseCore call: the result of values filled. -/
def V1 (d : Dev nD) : Valuation τ sig (Elt F) := Function.update (V0 m d) (Proc.devRef .tc main_v0) (vals m d)
/-- After the first transposition. -/
def V2 (d : Dev nD) : Valuation τ sig (Elt F) := op1.result (V1 m d)
/-- After the TensorCore region: its three results filled. -/
def V3 (d : Dev nD) : Valuation τ sig (Elt F) :=
  Function.update (Function.update (Function.update (V2 m d)
    (Proc.devRef .tc main_v2_0) (feat (V2 m d main_v1) (V2 m d main_arg1)))
    (Proc.devRef .tc main_v2_1) (lens (V2 m d main_arg3) (V2 m d main_arg5) (V2 m d main_arg7)))
    (Proc.devRef .tc main_v2_2) (offs (V2 m d main_arg3) (V2 m d main_arg5) (V2 m d main_arg7))
/-- At the end. -/
def V4 (d : Dev nD) : Valuation τ sig (Elt F) := op2.result (V3 m d)

/-! ## What a stage leaves alone -/

theorem V1_ne (d : Dev nD) (b : Ref sig .tc) (h : b ≠ main_v0) : V1 m d b = m (loc d b) :=
  Function.update_of_ne (StableHlo.devRef_ne_of_ne h) _ _

theorem V2_ne (d : Dev nD) (b : Ref sig .tc) (h : b ≠ main_v1) : V2 m d b = V1 m d b :=
  StableHlo.unary_result_ne main_arg0 main_v1 _ _ _ _ h

theorem V3_ne (d : Dev nD) (b : Ref sig .tc) (h0 : b ≠ main_v2_0) (h1 : b ≠ main_v2_1) (h2 : b ≠ main_v2_2) : V3 m d b = V2 m d b := by
  unfold V3
  rw [Function.update_of_ne (StableHlo.devRef_ne_of_ne h2), Function.update_of_ne (StableHlo.devRef_ne_of_ne h1),
    Function.update_of_ne (StableHlo.devRef_ne_of_ne h0)]

theorem V4_ne (d : Dev nD) (b : Ref sig .tc) (h : b ≠ main_v3) : V4 m d b = V3 m d b :=
  StableHlo.unary_result_ne main_v2_0 main_v3 _ _ _ _ h

/-- A buffer no stage writes. -/
theorem V4_keep (d : Dev nD) (b : Ref sig .tc)
    (h : b ≠ main_v0 ∧ b ≠ main_v1 ∧ b ≠ main_v2_0 ∧ b ≠ main_v2_1 ∧ b ≠ main_v2_2 ∧ b ≠ main_v3) : V4 m d b = m (loc d b) := by
  obtain ⟨h0, h1, h2, h3, h4, h5⟩ := h
  rw [V4_ne m d b h5, V3_ne m d b h2 h3 h4, V2_ne m d b h1, V1_ne m d b h0]

theorem V2_keep (d : Dev nD) (b : Ref sig .tc) (h0 : b ≠ main_v0) (h1 : b ≠ main_v1) : V2 m d b = m (loc d b) := by
  rw [V2_ne m d b h1, V1_ne m d b h0]

/-! ## What the region leaves -/

theorem V3_feat (d : Dev nD) : V3 m d main_v2_0 = feat (V2 m d main_v1) (V2 m d main_arg1) := by
  unfold V3
  rw [Function.update_of_ne (StableHlo.devRef_ne_of_ne (by decide)), Function.update_of_ne (StableHlo.devRef_ne_of_ne (by decide)),
    Function.update_self]

theorem V3_lens (d : Dev nD) : V3 m d main_v2_1 = lens (V2 m d main_arg3) (V2 m d main_arg5) (V2 m d main_arg7) := by
  unfold V3
  rw [Function.update_of_ne (StableHlo.devRef_ne_of_ne (by decide)), Function.update_self]

theorem V3_offs (d : Dev nD) : V3 m d main_v2_2 = offs (V2 m d main_arg3) (V2 m d main_arg5) (V2 m d main_arg7) := by
  unfold V3
  rw [Function.update_self]

/-! ## The results -/

theorem V4_values (d : Dev nD) : V4 m d main_v0 = vals m d := by
  rw [V4_ne m d _ (by decide), V3_ne m d _ (by decide) (by decide) (by decide), V2_ne m d _ (by decide)]
  exact Function.update_self _ _ _

theorem V4_lens (d : Dev nD) : V4 m d main_v2_1 = lens (m (loc d main_arg3)) (m (loc d main_arg5)) (m (loc d main_arg7)) := by
  rw [V4_ne m d _ (by decide), V3_lens, V2_keep m d main_arg3 (by decide) (by decide), V2_keep m d main_arg5 (by decide) (by decide),
    V2_keep m d main_arg7 (by decide) (by decide)]

theorem V4_offs (d : Dev nD) : V4 m d main_v2_2 = offs (m (loc d main_arg3)) (m (loc d main_arg5)) (m (loc d main_arg7)) := by
  rw [V4_ne m d _ (by decide), V3_offs, V2_keep m d main_arg3 (by decide) (by decide), V2_keep m d main_arg5 (by decide) (by decide),
    V2_keep m d main_arg7 (by decide) (by decide)]

theorem V2_turned (d : Dev nD) :
    V2 m d main_v1 = transpose S64x16384 [1, 0] (m (loc d main_arg0)) transposes_S16384x64_S64x16384_1_0 := by
  rw [← V1_ne m d main_arg0 (by decide)]
  exact StableHlo.unary_result main_arg0 main_v1 _ _ _ _

/-- The dense result: the feature array of the transposed first argument and the second one, transposed back. -/
def dense (d : Dev nD) : Buf (Elt F) (loc d main_v3) :=
  transpose S16384x192 [1, 0]
    (feat (transpose S64x16384 [1, 0] (m (loc d main_arg0)) transposes_S16384x64_S64x16384_1_0) (m (loc d main_arg1)))
    transposes_S192x16384_S16384x192_1_0

theorem V4_dense (d : Dev nD) : V4 m d main_v3 = dense m d := by
  unfold dense
  rw [← V2_turned, ← V2_keep m d main_arg1 (by decide) (by decide), ← V3_feat]
  exact StableHlo.unary_result main_v2_0 main_v3 _ _ _ _

end Cert.KernelIdeal.Wt

end
-- ==== Proof.KernelIdeal.Main.lean ====
/-
  The program's run: the SparseCore call, the first transposition, the TensorCore region, the second transposition;
  from any launch memory to one that holds `V4`, with every semaphore counter back at zero.
-/
module

public import proofs.«01_k».proof.Proof.KernelIdeal.Tile
public import proofs.«01_k».proof.Proof.KernelIdeal.Split
public import proofs.«01_k».proof.Proof.KernelIdeal.Stages
public import Idealize.ShloMosaic.Lib.Pipeline.Frame
public import Idealize.ShloMosaic.Lib.Pipeline.Launch

@[expose] public section

noncomputable section

namespace Cert.KernelIdeal.Wt

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element -/

/-- The pipeline has no prefetched table. -/
abbrev adm : (p : Fin 1) → (pcfgs (F := F) p).Adm := fun p => (cfgs p).toPCfg_adm

/-- The pipeline at its (absent) tables. -/
abbrev pinned : Fin 1 → Pipeline.Cfg sig Λ₀ := Pipeline.pin (pcfgs (F := F)) adm

theorem pinned_inj : Function.Injective (Pipeline.cellOf (nD := nD) (τ := τ) (pinned (F := F))) := cellOf_inj

/-- The ghost state at launch: the handshakes', the staging cells', no counter. -/
def u₀ : UU := (initOf (K (F := F)).hsCells (K (F := F)).hsToks,
  (initOf (Pipeline.cells (pinned (F := F)) pinned_inj) (Pipeline.launchToks (pinned (F := F)) pinned_inj), 1))

/-- What the TensorCore of `d` is dealt of it for its region. -/
def G (d : Dev nD) : sProp 𝕄 :=
  iprop(Pipeline.cellsGhost (pinned (F := F)) EP 0 d ∗ Pipeline.toksInit (pinned (F := F)) EP 0 d)

/-- The launch element gives the handshakes' ghost state, each TensorCore's share for its region, and nothing to the tiles. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave H := (own_pair_emb (embR : Emb (UR × Counters) (MT nD τ sig (HIx 1) (Elt F) ℕ UU ℕ)) _ (1 : Counters)) $$ HR
  icases H with ⟨HP, -⟩
  imod (Pipeline.fund_ghost (pinned (F := F)) EP pinned_inj) $$ [HP] with ⟨Hg, Ht⟩
  · iexact HP
  imodintro
  isplitl [HH]; · iexact HH
  isplitl [Hg Ht]
  · unfold G
    rw [bigSep_sep']
    isplitl [Hg]
    · iapply (Entails.of_eq (bigSep_congr fun d _ => bigSep_univ_of_subsingleton (0 : Fin 1))) $$ Hg
    · iapply (Entails.of_eq (bigSep_congr fun d _ => bigSep_univ_of_subsingleton (0 : Fin 1))) $$ Ht
  rw [show (bigSep Finset.univ fun thr : Thread nD τ => bigSep Finset.univ fun q : Fin 1 => (P (F := F) m).x q thr)
      = bigSep Finset.univ fun _ => iprop(emp) from bigSep_congr fun _ _ => bigSep_univ_of_subsingleton (0 : Fin 1),
    show (bigSep Finset.univ fun _ : Thread nD τ => iprop(emp)) = (iprop(emp) : sProp 𝕄) from bigSep_emp_const _]
  iempintro

/-! ## The HBM buffers one by one -/

theorem unscopedBufs_eq (d : Dev nD) (W : (b : Ref sig .tc) → Buf (Elt F) ((d.tc : Thread nD τ).loc b)) :
    (unscopedBufs d W : sProp 𝕄) = iprop((aLoc d ↦{fullShare} W main_arg2) ∗ (bLoc d ↦{fullShare} W main_arg4)
      ∗ (cLoc d ↦{fullShare} W main_arg6) ∗ (oLoc d ↦{fullShare} W main_v0)
      ∗ bigSep ({main_arg0, main_arg1, main_arg3, main_arg5, main_arg7, main_v1, main_v2_0, main_v2_1, main_v2_2, main_v3} : Finset (Ref sig .tc))
          fun b => loc d b ↦{fullShare} W b) := by
  unfold unscopedBufs
  rw [show (Finset.univ.filter fun b : Ref sig .tc => ¬ b.isScoped)
      = insert main_arg2 (insert main_arg4 (insert main_arg6 (insert main_v0
        {main_arg0, main_arg1, main_arg3, main_arg5, main_arg7, main_v1, main_v2_0, main_v2_1, main_v2_2, main_v3}))) by decide,
    SparseCore.bigSep_insert' (by decide), SparseCore.bigSep_insert' (by decide), SparseCore.bigSep_insert' (by decide),
    SparseCore.bigSep_insert' (by decide)]

/-- The HBM buffers after the SparseCore call, from what it hands back and the rest. -/
theorem after_call (d : Dev nD) :
    iprop((aLoc d ↦{fullShare} m (aLoc d)) ∗ (bLoc d ↦{fullShare} m (bLoc d)) ∗ (cLoc d ↦{fullShare} m (cLoc d)) ∗ (oLoc d ↦{fullShare} vals m d)
      ∗ bigSep ({main_arg0, main_arg1, main_arg3, main_arg5, main_arg7, main_v1, main_v2_0, main_v2_1, main_v2_2, main_v3} : Finset (Ref sig .tc))
          fun b => loc d b ↦{fullShare} m (loc d b))
    = (StableHlo.held (d.tc : Thread nD τ) (Pipeline.ucRefs τ sig) (V1 m d) : sProp 𝕄) := by
  rw [← Pipeline.unscopedBufs_held, unscopedBufs_eq, V1_ne m d main_arg2 (by decide), V1_ne m d main_arg4 (by decide),
    V1_ne m d main_arg6 (by decide), show V1 m d main_v0 = vals m d from Function.update_self _ _ _]
  congr 4

/-! ## The region -/

/-- The HBM buffers when the region is entered and when it is left. -/
abbrev Vin (d : Dev nD) (b : Ref sig .tc) : Buf (Elt F) ((d : Thread nD τ).loc b) := V2 m d b
abbrev Vout (d : Dev nD) (b : Ref sig .tc) : Buf (Elt F) ((d : Thread nD τ).loc b) := V3 m d b

/-- The region from `V2` to `V3`. -/
def region (lim : ℕ) :=
  reg (Vin m) lim adm (Vout m) (fun d => (V3_feat m d).trans (arr_feat (Vin m) lim d).symm)
    (fun d => (V3_lens m d).trans (arr_lens (Vin m) lim d).symm) (fun d => (V3_offs m d).trans (arr_offs (Vin m) lim d).symm)
    (fun d b h0 h1 h2 => V3_ne m d b h0 h1 h2)

theorem region_pre (lim : ℕ) (d : Dev nD) :
    (region m lim).pre d = iprop(unscopedBufs d (fun b => V2 m d b) ∗ ∃ W, ⌜(K (F := F)).WBelow (SparseCore.T d) W lim⌝
      ∗ owes (SparseCore.T d) (0 : CellTallies nD τ sig (HIx 1)) W) := rfl
theorem region_post (lim : ℕ) (d : Dev nD) :
    (region m lim).post d = iprop(unscopedBufs d (fun b => V3 m d b) ∗ ∃ W, ⌜(K (F := F)).WBelow (SparseCore.T d) W lim⌝
      ∗ owes (SparseCore.T d) (0 : CellTallies nD τ sig (HIx 1)) W) := rfl

/-! ## What the program's other statements need -/

theorem op1_within : (op1 (F := F)).bufs ⊆ Pipeline.ucRefs τ sig := Pipeline.sub_ucRefs _ (StableHlo.unary_bufs_sub _ _ _ _ _)
theorem op2_within : (op2 (F := F)).bufs ⊆ Pipeline.ucRefs τ sig := Pipeline.sub_ucRefs _ (StableHlo.unary_bufs_sub _ _ _ _ _)

/-- After the one call the TensorCore owes nothing to a SparseCore. -/
theorem owes_none (d : Dev nD) : (K (F := F)).Otc d 1 = 0 := by
  unfold SparseCore.Cfg.Otc
  exact Finset.sum_eq_zero fun q _ => by simp

/-- The TensorCore's state after the one call: what it owes, apart from its positions. -/
theorem tcSt_one (d : Dev nD) : ∃ (lim : ℕ) (R : sProp 𝕄), (K (F := F)).tcSt EH d 1
    = iprop((∃ W, ⌜(K (F := F)).WBelow (SparseCore.T d) W lim⌝ ∗ owes (SparseCore.T d) (0 : CellTallies nD τ sig (HIx 1)) W) ∗ R) :=
  ⟨_, _, by rw [← owes_none (F := F) d]; rfl⟩

variable [∀ e, Nonempty (Elt F e)]

/-- The region's statement of the program. -/
theorem wp_region (lim : ℕ) (κ : GSem nD τ sig → ℕ) (d : Dev nD) (Q : PUnit → sProp 𝕄) :
    iprop((K (F := F)).ctx EH (P m) κ ∗ boundary (SparseCore.T d)
        ∗ StableHlo.held (d.tc : Thread nD τ) (Pipeline.ucRefs τ sig) (V2 m d)
        ∗ (∃ W, ⌜(K (F := F)).WBelow (SparseCore.T d) W lim⌝ ∗ owes (SparseCore.T d) (0 : CellTallies nD τ sig (HIx 1)) W)
        ∗ G d
        ∗ (iprop(boundary (SparseCore.T d) ∗ StableHlo.held (d.tc : Thread nD τ) (Pipeline.ucRefs τ sig) (V3 m d)
            ∗ (∃ W, ⌜(K (F := F)).WBelow (SparseCore.T d) W lim⌝ ∗ owes (SparseCore.T d) (0 : CellTallies nD τ sig (HIx 1)) W)) -∗ Q ⟨⟩))
      ⊢ wp frame (wpE ((K (F := F)).defs (D (F := F))) 𝒱 (SparseCore.T d) none) Set.univ
          (Prog.lift (.customCall (SparseCore.inner (Pipeline.entry 0)) ())) Q := by
  rw [← Pipeline.unscopedBufs_held, ← Pipeline.unscopedBufs_held]
  unfold G
  iintro ⟨Hctx, Hb, Hu, HO, ⟨Hg, Ht⟩, Hk⟩
  ihave Hlev := (SparseCore.Cfg.ctx_levAts (K := K (F := F)) (EH := EH) (P := P m) κ) $$ Hctx
  iapply ((K (F := F)).wp_liftProg (D (F := F)) 𝒱 (SparseCore.T d) Set.univ none
    (Prog.lift (.customCall (Pipeline.entry 0) ())) Q)
  iapply (Pipeline.RegionSeg.wp (pcfgs (F := F)) adm (pdats (Vin m) lim adm) none pinned_inj EP defs₀ 𝒱₀ (K (F := F)).L (K (F := F)).lev
    (region m lim) d none (fun _ h => nomatch h) (fun _ => .ret ⟨⟩) Q)
  isplitl [Hk]
  · rw [region_post, wp_ret]
    iintro ⟨Hb, Hu, HO⟩
    imodintro
    iapply Hk
    isplitl [Hb]; · iexact Hb
    isplitl [Hu]; · iexact Hu
    iexact HO
  isplitl [Hb]; · iexact Hb
  isplitl [Hu HO]
  · rw [region_pre]
    isplitl [Hu]; · iexact Hu
    iexact HO
  isplitl [Hlev]; · iexact Hlev
  isplitl [Hg]; · iexact Hg
  iexact Ht

/-! ## The program on the TensorCore -/

/-- What the program leaves. -/
abbrev FIN (d : Dev nD) : sProp 𝕄 := unscopedBufs d fun b => V4 m d b

/-- `main` on the TensorCore of `d`: from the launch memory to `V4`, by its four statements in turn. -/
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨lim, R, hst⟩ := tcSt_one (F := F) d
  unfold SparseCore.Cfg.tcRes SparseCore.Cfg.tcEnd
  rw [unscopedBufs_eq]
  simp only [main, wp_bind, wp_pure]
  iintro ⟨#Hctx, Hst, ⟨Hb, ⟨Ha, Hbb, Hc, Ho, Hrest⟩, Hts, -⟩, HG⟩
  iapply ((K (F := F)).wp_run (D (F := F)) 𝒱 (EH := EH) (P := P m) κ d 0) $$ [Hst Ha Hbb Hc Ho Hrest Hb Hts HG]
  isplitr; · iexact Hctx
  isplitl [Hst]; · iexact Hst
  isplitl [Ha Hbb Hc Ho]
  · rw [st_eq]
    isplitl [Ha]; · iexact Ha
    isplitl [Hbb]; · iexact Hbb
    isplitl [Hc]; · iexact Hc
    iexact Ho
  iintro ⟨Hst, Hdn⟩
  ihave Hdn := (Entails.of_eq (dn_eq m d)) $$ Hdn
  icases Hdn with ⟨Ha, Hbb, Hc, Ho⟩
  ihave Hh := (Entails.of_eq (after_call m d)) $$ [Ha Hbb Hc Ho Hrest]
  · isplitl [Ha]; · iexact Ha
    isplitl [Hbb]; · iexact Hbb
    isplitl [Hc]; · iexact Hc
    isplitl [Ho]; · iexact Ho
    iexact Hrest
  iapply (StableHlo.wp_hlo_within (defs := (K (F := F)).defs (D (F := F))) 𝒱 (d.tc : Thread nD τ) none Set.univ (op := op1)
    op1_within (V := V1 m d)) $$ [Hb Hh]
  · isplitl [Hb]; · iexact Hb
    iexact Hh
  iintro ⟨Hb, Hh⟩
  rw [wp_ret]
  imodintro
  ihave Hst := (show (K (F := F)).tcSt EH d ((0 : Fin 1).val + 1) ⊢ _ from Entails.of_eq hst) $$ Hst
  icases Hst with ⟨HO, Hpos⟩
  iapply (wp_region m _ κ d _)
  isplitr; · iexact Hctx
  isplitl [Hb]; · iexact Hb
  isplitl [Hh]; · iexact Hh
  isplitl [HO]; · iexact HO
  isplitl [HG]; · iexact HG
  iintro ⟨Hb, Hh, HO⟩
  iapply (StableHlo.wp_hlo_within (defs := (K (F := F)).defs (D (F := F))) 𝒱 (d.tc : Thread nD τ) none Set.univ (op := op2)
    op2_within (V := V3 m d)) $$ [Hb Hh]
  · isplitl [Hb]; · iexact Hb
    iexact Hh
  iintro ⟨Hb, Hh⟩
  rw [wp_ret]
  imodintro
  imodintro
  isplitl [HO Hpos]
  · iapply (Entails.of_eq hst.symm)
    isplitl [HO]; · iexact HO
    iexact Hpos
  isplitl [Hh]
  · iapply (Entails.of_eq (Pipeline.unscopedBufs_held d (V4 m d)).symm)
    iexact Hh
  isplitl [Hb]; · iexact Hb
  iexact Hts

/-! ## The run -/

/-- What the launch's end says of the memory: every HBM buffer holds `V4`. -/
def fq (d : Dev nD) (s' : Phys nD τ sig (Elt F)) : Prop := ∀ b : Ref sig .tc, ¬ b.isScoped → s'.mem.mem (loc d b) = V4 m d b

/-- The buffers held at the end are read off the final memory. -/
theorem hfin (d : Dev nD) (s' : Phys nD τ sig (Elt F)) : iprop(FIN m d ∗ SI s') ⊢ (⌜fq m d s'⌝ : sProp 𝕄) := by
  unfold FIN unscopedBufs
  iintro H
  ihave H := (pointsTo_read_all _ (fun b => loc d b) (fun b => V4 m d b) s') $$ H
  icases H with ⟨%h, -⟩
  ipureintro
  exact fun b hb => h b (Finset.mem_filter.mpr ⟨Finset.mem_univ _, hb⟩)

/-- Every HBM buffer holds `V4`, every counter is zero. -/
def QC : PUnit × MemSt nD τ sig (Elt F) → Prop :=
  fun r => (∀ (d : Dev nD) (b : Ref sig .tc), ¬ b.isScoped → r.2.mem (loc d b) = V4 m d b) ∧ r.2.sem = fun _ => 0

/-- Every run of the program ends, with `V4` in every HBM buffer and every counter at zero. -/
theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

/-- A buffer no statement writes holds at the end what it held at launch. -/
theorem kept {r : PUnit × MemSt nD τ sig (Elt F)} (h : QC m r) (d : Dev nD) (b : Ref sig .tc) (hs : ¬ b.isScoped)
    (hb : b ≠ main_v0 ∧ b ≠ main_v1 ∧ b ≠ main_v2_0 ∧ b ≠ main_v2_1 ∧ b ≠ main_v2_2 ∧ b ≠ main_v3) :
    r.2.mem (loc d b) = m (loc d b) := (h.1 d b hs).trans (V4_keep m d b hb)

/-- The arguments as the run leaves them. -/
theorem args_kept {r : PUnit × MemSt nD τ sig (Elt F)} (h : QC m r) (d : Dev nD) :
    r.2.mem (loc d main_arg0) = m (loc d main_arg0) ∧ r.2.mem (loc d main_arg1) = m (loc d main_arg1)
      ∧ r.2.mem (loc d main_arg2) = m (loc d main_arg2) ∧ r.2.mem (loc d main_arg3) = m (loc d main_arg3)
      ∧ r.2.mem (loc d main_arg4) = m (loc d main_arg4) ∧ r.2.mem (loc d main_arg5) = m (loc d main_arg5)
      ∧ r.2.mem (loc d main_arg6) = m (loc d main_arg6) ∧ r.2.mem (loc d main_arg7) = m (loc d main_arg7) :=
  ⟨kept m h d _ (by decide) (by decide), kept m h d _ (by decide) (by decide), kept m h d _ (by decide) (by decide),
    kept m h d _ (by decide) (by decide), kept m h d _ (by decide) (by decide), kept m h d _ (by decide) (by decide),
    kept m h d _ (by decide) (by decide), kept m h d _ (by decide) (by decide)⟩

/-- The results as the run leaves them. -/
theorem results_left {r : PUnit × MemSt nD τ sig (Elt F)} (h : QC m r) (d : Dev nD) :
    r.2.mem (loc d main_v3) = dense m d ∧ r.2.mem (loc d main_v0) = vals m d
      ∧ r.2.mem (loc d main_v2_1) = lens (m (loc d main_arg3)) (m (loc d main_arg5)) (m (loc d main_arg7))
      ∧ r.2.mem (loc d main_v2_2) = offs (m (loc d main_arg3)) (m (loc d main_arg5)) (m (loc d main_arg7)) :=
  ⟨(h.1 d _ (by decide)).trans (V4_dense m d), (h.1 d _ (by decide)).trans (V4_values m d),
    (h.1 d _ (by decide)).trans (V4_lens m d), (h.1 d _ (by decide)).trans (V4_offs m d)⟩

end Cert.KernelIdeal.Wt

end
-- ==== Proof.Reference.lean ====
/-
  What the reference computes, element by element: its concatenations, its consecutive differences and its running sum.
-/
module

public import proofs.«01_k».proof.Proof.Gen.ReferenceIdeal
public import Idealize.ShloMosaic.Lib.Pipeline.Value
public import Idealize.ShloMosaic.Lib.Routing.OpsOne

@[expose] public section

noncomputable section

namespace Cert.ReferenceIdeal.Elem

open Cert.ReferenceIdeal Cert.ReferenceIdeal.Gen
open Idealize.ShloMosaic
open Idealize.ShloMosaic.ValueIdx Idealize.ShloMosaic.Routing

variable {α : Type}

/-- Three vectors of one length concatenated: place `n * k + i` of the result is place `i` of the `k`-th. -/
theorem three_apply {n N : ℕ} (x : Fin 3 → (shape1 n).Idx → α) (h : Shape.Concatenates [shape1 n, shape1 n, shape1 n] (shape1 N) 0)
    (j : (shape1 N).Idx) (k : Fin 3) (i : Fin n) (hj : n * k.val + i.val = (j 0).val) :
    concatenate (shape1 N) 0 [⟨shape1 n, x 0⟩, ⟨shape1 n, x 1⟩, ⟨shape1 n, x 2⟩] h j = x k (ix1 i) := by
  refine concatenate_apply_piece (t := shape1 N) 0 [⟨shape1 n, x 0⟩, ⟨shape1 n, x 1⟩, ⟨shape1 n, x 2⟩] h j k.val k.isLt (shape1 n) (x k) ?_ rfl (n * k.val) ?_ (ix1 i) ?_ hj
  · fin_cases k <;> rfl
  · fin_cases k <;> simp <;> omega
  · exact fun b hb => absurd (Subsingleton.elim _ _) hb

/-- The dense result: the first 64 columns are those of `x`, the other 128 those of `y`. -/
theorem columns_apply (x : S16384x64.Idx → α) (y : S16384x128.Idx → α) (j : S16384x192.Idx) (z : α)
    (hx : ∀ i : S16384x64.Idx, (i 0).val = (j 0).val → (i 1).val = (j 1).val → x i = z)
    (hy : ∀ i : S16384x128.Idx, (i 0).val = (j 0).val → (i 1).val + 64 = (j 1).val → y i = z) :
    concatenate S16384x192 1 [⟨S16384x64, x⟩, ⟨S16384x128, y⟩] concatenates_S16384x64_S16384x128_S16384x192_d1 j = z := by
  have h0 : (j 0).val < 16384 := (j 0).isLt
  have h1 : (j 1).val < 192 := (j 1).isLt
  by_cases h : (j 1).val < 64
  · refine (concatenate_pair_apply_left (1 : Fin S16384x192.rank) x y _ j rfl (ix2 ⟨(j 0).val, h0⟩ ⟨(j 1).val, h⟩) ?_).trans (hx _ rfl rfl)
    intro b
    match b with
    | ⟨0, _⟩ => rfl
    | ⟨1, _⟩ => rfl
  · have e : (j 1).val - 64 + 64 = (j 1).val := by omega
    refine (concatenate_pair_apply_right (1 : Fin S16384x192.rank) x y _ j rfl rfl
      (ix2 ⟨(j 0).val, h0⟩ ⟨(j 1).val - 64, by omega⟩) ?_ e).trans (hy _ rfl e)
    intro b hb
    match b with
    | ⟨0, _⟩ => rfl
    | ⟨1, _⟩ => exact absurd rfl hb

/-- The consecutive differences of a vector of offsets. -/
def diffs (o : S16385.Idx → BitVec 32) : S16384.Idx → BitVec 32 :=
  subi (extractStridedSlice S16384 ![1] o slices_S16385_S16384_1) (extractStridedSlice S16384 ![0] o slices_S16385_S16384_0)

theorem diffs_apply (o : S16385.Idx → BitVec 32) (i : Fin 16384) :
    diffs o (ix1 i) = o (ix1 ⟨i.val + 1, by omega⟩) - o (ix1 ⟨i.val, by omega⟩) := by
  unfold diffs subi IntOp.subi
  rw [extractStridedSlice_apply ![1] o _ (ix1 i) (ix1 ⟨i.val + 1, by omega⟩) (fun | 0 => Nat.add_comm _ _),
    extractStridedSlice_apply ![0] o _ (ix1 i) (ix1 ⟨i.val, by omega⟩) (fun | 0 => (Nat.zero_add _).symm)]

/-- A sequence that starts at zero is the running sum of its steps. -/
theorem running_sum {N : ℕ} (g : Fin N → BitVec 32) (G : ℕ → BitVec 32) (h0 : G 0 = 0) (hs : ∀ i : Fin N, G (i.val + 1) = G i.val + g i) (j : Fin N) :
    (∑ i : Fin N, if i ≤ j then g i else 0) = G (j.val + 1) := by
  have hj := j.isLt
  have e : ∀ i : Fin N, (if i ≤ j then g i else 0) = (fun n : ℕ => if n ≤ j.val then G (n + 1) - G n else 0) i.val := fun i => by
    show _ = if i.val ≤ j.val then G (i.val + 1) - G i.val else 0
    rw [hs i, add_sub_cancel_left]
    rfl
  rw [Finset.sum_congr rfl fun i _ => e i, Fin.sum_univ_eq_sum_range (fun n : ℕ => if n ≤ j.val then G (n + 1) - G n else 0) N,
    ← Finset.sum_filter, show (Finset.range N).filter (fun n => n ≤ j.val) = Finset.range (j.val + 1) by ext n; simp; omega,
    Finset.sum_range_sub, h0, sub_zero]

/-- The last result: zero, and after it the running sums of a vector `g`; it is `G` wherever `G` starts at zero and has
    the steps `g`. -/
theorem sums_apply (c : S1.Idx → BitVec 32) (init : S_.Idx → BitVec 32) (g : S49152.Idx → BitVec 32) (G : ℕ → BitVec 32)
    (hc : ∀ i, c i = 0#32) (hinit : init ix0 = 0#32) (h0 : G 0 = 0)
    (hs : ∀ i : Fin 49152, G (i.val + 1) = G i.val + g (ix1 i)) (j : S49153.Idx) :
    concatenate S49153 0 [⟨S1, c⟩, ⟨S49152, Host.reduceWindow IntOp.addi ![49152] ![1] ![49151] ![0] g init
      reduceWindows_S49152_S49152_w49152s1p49151_0 h_S_⟩] concatenates_S1_S49152_S49153_d0 j = G (j 0).val := by
  have hsum : ∀ k : Fin 49152, Host.reduceWindow IntOp.addi ![49152] ![1] ![49151] ![0] g init
      reduceWindows_S49152_S49152_w49152s1p49151_0 h_S_ (ix1 k) = G (k.val + 1) := fun k => by
    rw [cumsum_vec (N := 49152) (Nm1 := 49151) rfl g init hinit _ _ k, running_sum (fun i => g (ix1 i)) G h0 hs]
  generalize (Host.reduceWindow IntOp.addi ![49152] ![1] ![49151] ![0] g init
      reduceWindows_S49152_S49152_w49152s1p49151_0 h_S_ : S49152.Idx → BitVec 32) = r at hsum ⊢
  have hj : (j 0).val < 49153 := (j 0).isLt
  by_cases h : (j 0).val = 0
  · rw [h, h0]
    refine (concatenate_pair_apply_left (0 : Fin S49153.rank) c _ _ j rfl (ix1 ⟨0, Nat.one_pos⟩) ?_).trans (hc _)
    intro b
    match b with
    | ⟨0, _⟩ => exact h.symm
  · have e : (j 0).val - 1 + 1 = (j 0).val := by omega
    refine (concatenate_pair_apply_right (0 : Fin S49153.rank) c r _ j rfl rfl (ix1 ⟨(j 0).val - 1, by omega⟩) ?_ e).trans
      ((hsum _).trans (congrArg G e))
    intro b hb
    match b with
    | ⟨0, _⟩ => exact absurd rfl hb

end Cert.ReferenceIdeal.Elem

end
-- ==== Proof.Equations.lean ====
/-
  The four equations: what the program leaves in each of its results is what the reference computes of the same arguments.
-/
module

public import proofs.«01_k».proof.Proof.KernelIdeal.Stages
public import proofs.«01_k».proof.Proof.Reference

@[expose] public section

noncomputable section

namespace Cert.Proof.Eqn

open Idealize.ShloMosaic
open Idealize.ShloMosaic.ValueIdx Idealize.ShloMosaic.Routing
open Cert.ReferenceIdeal (S16384x64 S16384x128 S16384x192 S819200 S2457600 S16385 S16384 S49152 S49153 S1 S_)
open Cert.ReferenceIdeal.Gen Cert.ReferenceIdeal.Elem
open Cert.KernelIdeal.Wt (at819200 at16385 at1 atXs atYs feat cat3 lens lens_at offs pick)

/-! ## The dense result -/

/-- The transposed first argument above the second one's columns, transposed back, is the two side by side. -/
theorem dense_eq {α : Type} (x : S16384x64.Idx → α) (y : S16384x128.Idx → α)
    (h : S16384x64.Transposes [1, 0] Cert.KernelIdeal.S64x16384) (h' : Cert.KernelIdeal.S192x16384.Transposes [1, 0] S16384x192) :
    transpose S16384x192 [1, 0] (feat (transpose Cert.KernelIdeal.S64x16384 [1, 0] x h) y) h'
      = concatenate S16384x192 1 [⟨S16384x64, x⟩, ⟨S16384x128, y⟩] Cert.ReferenceIdeal.Gen.concatenates_S16384x64_S16384x128_S16384x192_d1 := by
  funext j
  have h0 : (j 0).val < 16384 := (j 0).isLt
  have h1 : (j 1).val < 192 := (j 1).isLt
  rw [transpose_apply [1, 0] _ h' j (ValueIdx.ix2 ⟨(j 1).val, h1⟩ ⟨(j 0).val, h0⟩) (fun | 0 => rfl | 1 => rfl)]
  refine (columns_apply x y j _ (fun i e0 e1 => ?_) (fun i e0 e1 => ?_)).symm
  · have hlt : (i 1).val < 64 := (i 1).isLt
    unfold feat
    rw [dif_pos (show (j 1).val < 64 by omega)]
    exact (transpose_apply [1, 0] x h (atXs (j 1).val (j 0).val (by omega) h0) i (fun | 0 => e1 | 1 => e0)).symm
  · unfold feat
    rw [dif_neg (show ¬ (j 1).val < 64 by omega)]
    congr 1
    funext a
    match a with
    | ⟨0, _⟩ => exact Fin.ext e0
    | ⟨1, _⟩ => exact Fin.ext (by show (i 1).val = (j 1).val - 64; omega)

/-! ## The values -/

/-- The joined values are the three value arrays concatenated. -/
theorem values_eq {F : FTy → Type} (a b c : S819200.Idx → Elt F .i32) :
    cat3 a b c = concatenate S2457600 0 [⟨S819200, a⟩, ⟨S819200, b⟩, ⟨S819200, c⟩] concatenates_S819200_S819200_S819200_S2457600_d0 := by
  funext j
  have hj : (j 0).val < 2457600 := (j 0).isLt
  have hm : (j 0).val % 819200 < 819200 := Nat.mod_lt _ (by decide)
  have hk : (j 0).val / 819200 < 3 := by omega
  refine Eq.trans ?_ (three_apply (n := 819200) (N := 2457600) ![a, b, c] _ j ⟨(j 0).val / 819200, hk⟩ ⟨(j 0).val % 819200, hm⟩
    (Nat.div_add_mod _ _)).symm
  unfold cat3
  have hi : at819200 ((j 0).val % 819200) hm = ValueIdx.ix1 ⟨(j 0).val % 819200, hm⟩ := by
    funext d
    match d with
    | ⟨0, _⟩ => rfl
  rw [hi]
  generalize (j 0).val / 819200 = k at hk
  interval_cases k <;> rfl

/-! ## The lengths -/

variable (o1 o2 o3 : S16385.Idx → BitVec 32)

/-- The joined lengths are the consecutive differences of the three offset arrays, concatenated. -/
theorem lens_eq : lens o1 o2 o3 = concatenate S49152 0 [⟨S16384, diffs o1⟩, ⟨S16384, diffs o2⟩, ⟨S16384, diffs o3⟩]
    concatenates_S16384_S16384_S16384_S49152_d0 := by
  funext j
  have hj : (j 0).val < 49152 := (j 0).isLt
  have hm : (j 0).val % 16384 < 16384 := Nat.mod_lt _ (by decide)
  have hk : (j 0).val / 16384 < 3 := by omega
  refine Eq.trans ?_ (three_apply (n := 16384) (N := 49152) ![diffs o1, diffs o2, diffs o3] _ j ⟨(j 0).val / 16384, hk⟩ ⟨(j 0).val % 16384, hm⟩
    (Nat.div_add_mod _ _)).symm
  rw [lens_at o1 o2 o3 j ((j 0).val / 16384) ((j 0).val % 16384) hm (Nat.div_add_mod _ _).symm]
  have hi : ∀ (n : ℕ) (h : n < 16385), at16385 n h = ValueIdx.ix1 ⟨n, h⟩ := fun n h => by
    funext d
    match d with
    | ⟨0, _⟩ => rfl
  have key : ∀ (k : ℕ) (hk : k < 3) (i : Fin 16384), pick o1 o2 o3 k (at16385 (i.val + 1) (by omega)) - pick o1 o2 o3 k (at16385 i.val (by omega))
      = (![diffs o1, diffs o2, diffs o3] : Fin 3 → S16384.Idx → BitVec 32) ⟨k, hk⟩ (ValueIdx.ix1 i) := fun k hk i => by
    rw [hi, hi]
    unfold pick
    interval_cases k <;> exact (diffs_apply _ _).symm
  exact key _ hk ⟨_, hm⟩

/-! ## The offsets -/

/-- The offset at a position, zero past the last one. -/
def rd (o : S16385.Idx → BitVec 32) (n : ℕ) : BitVec 32 := if h : n < 16385 then o (at16385 n h) else 0

theorem rd_of (o : S16385.Idx → BitVec 32) (n : ℕ) (h : n < 16385) : o (at16385 n h) = rd o n := by
  unfold rd
  rw [dif_pos h]

/-- The offset vector as a sequence over the naturals. -/
def seqOffs (n : ℕ) : BitVec 32 :=
  if n < 16385 then rd o1 n - rd o1 0
  else if n < 32769 then rd o2 (n - 16384) + ((rd o1 16384 - rd o1 0) - rd o2 0)
  else rd o3 (n - 32768) + ((((rd o1 16384 - rd o1 0) + rd o2 16384) - rd o2 0) - rd o3 0)

/-- The offset vector read as the sequence. -/
theorem offs_at (j : S49153.Idx) : offs o1 o2 o3 j = seqOffs o1 o2 o3 (j 0).val := by
  unfold offs seqOffs
  simp only [rd_of, dite_eq_ite]

/-! The sequence on each feature's places, the place where one feature ends and the next begins being in both. -/

theorem seq_first (r : ℕ) (hr : r ≤ 16384) : seqOffs o1 o2 o3 (16384 * 0 + r) = rd o1 r - rd o1 0 := by
  unfold seqOffs
  rw [if_pos (by omega), show 16384 * 0 + r = r by omega]

theorem seq_second (r : ℕ) (hr : r ≤ 16384) :
    seqOffs o1 o2 o3 (16384 * 1 + r) = rd o2 r + ((rd o1 16384 - rd o1 0) - rd o2 0) := by
  unfold seqOffs
  by_cases h : r = 0
  · subst h
    rw [if_pos (by omega)]
    ring
  · rw [if_neg (by omega), if_pos (by omega), show 16384 * 1 + r - 16384 = r by omega]

theorem seq_third (r : ℕ) :
    seqOffs o1 o2 o3 (16384 * 2 + r) = rd o3 r + ((((rd o1 16384 - rd o1 0) + rd o2 16384) - rd o2 0) - rd o3 0) := by
  unfold seqOffs
  by_cases h : r = 0
  · subst h
    rw [if_neg (by omega), if_pos (by omega), show 16384 * 2 + 0 - 16384 = 16384 by omega]
    ring
  · rw [if_neg (by omega), if_neg (by omega), show 16384 * 2 + r - 32768 = r by omega]

/-- The sequence's step at place `r` of feature `k` is that feature's length there. -/
theorem seqOffs_succ (k r : ℕ) (hk : k < 3) (hr : r < 16384) :
    seqOffs o1 o2 o3 (16384 * k + r + 1) = seqOffs o1 o2 o3 (16384 * k + r) + (rd (pick o1 o2 o3 k) (r + 1) - rd (pick o1 o2 o3 k) r) := by
  rw [Nat.add_assoc]
  interval_cases k
  · rw [seq_first o1 o2 o3 r (by omega), seq_first o1 o2 o3 (r + 1) (by omega), show pick o1 o2 o3 0 = o1 from rfl]
    ring
  · rw [seq_second o1 o2 o3 r (by omega), seq_second o1 o2 o3 (r + 1) (by omega), show pick o1 o2 o3 1 = o2 from rfl]
    ring
  · rw [seq_third o1 o2 o3 r, seq_third o1 o2 o3 (r + 1), show pick o1 o2 o3 2 = o3 from rfl]
    ring

/-- The joined offsets are zero followed by the running sums of the joined lengths. Both sides wrap around alike, so no bound
    on the offsets is needed. -/
theorem offs_eq : offs o1 o2 o3 = concatenate S49153 0
    [⟨S1, broadcastInDim S1 ![] Cert.ReferenceIdeal.Gen.bcast_S_S1 (constantI S_ 32 0#32)⟩,
      ⟨S49152, Host.reduceWindow IntOp.addi ![49152] ![1] ![49151] ![0]
        (concatenate S49152 0 [⟨S16384, diffs o1⟩, ⟨S16384, diffs o2⟩, ⟨S16384, diffs o3⟩] concatenates_S16384_S16384_S16384_S49152_d0)
        (broadcastInDim S_ ![] bcast_S_S_ (constantI S_ 32 0#32)) reduceWindows_S49152_S49152_w49152s1p49151_0 h_S_⟩]
    concatenates_S1_S49152_S49153_d0 := by
  rw [← lens_eq]
  funext j
  rw [offs_at]
  refine (sums_apply _ _ _ (seqOffs o1 o2 o3) (fun _ => rfl) rfl ?_ (fun i => ?_) j).symm
  · unfold seqOffs
    rw [if_pos (by omega), sub_self]
  · have hi := i.isLt
    rw [lens_at o1 o2 o3 (ValueIdx.ix1 i) (i.val / 16384) (i.val % 16384) (Nat.mod_lt _ (by decide)) (Nat.div_add_mod _ _).symm]
    simp only [rd_of]
    have e := seqOffs_succ o1 o2 o3 (i.val / 16384) (i.val % 16384) (by omega) (Nat.mod_lt _ (by decide))
    rwa [Nat.div_add_mod] at e

end Cert.Proof.Eqn

end
-- ==== Proof.lean ====
/-
  The proof of `Cert.Claim`: the three frames, the (empty) list of rewrites, and the equality of the kernel's four results
  with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Main
public import proofs.«01_k».proof.Proof.KernelIdeal.Main
public import proofs.«01_k».proof.Proof.Equations
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The kernel's frame: its run at the machine's floats, with the results dropped. -/
theorem frame_kernel : Cert.quiescent_Kernel := fun m ρ _ =>
  (θ_run Cert.Kernel.defs _ _).mono (fun _ h => ⟨fun d => Cert.Kernel.Wt.args_kept m h d, h.2⟩) (Cert.Kernel.Wt.run_main (F := Bits) m ρ)

/-- The idealized kernel's frame: the same run at the ideal floats. -/
theorem frame_ideal : Cert.quiescent_KernelIdeal := fun m ρ _ =>
  (θ_run Cert.KernelIdeal.defs _ _).mono (fun _ h => ⟨fun d => Cert.KernelIdeal.Wt.args_kept m h d, h.2⟩)
    (Cert.KernelIdeal.Wt.run_main (F := Ideal) m ρ)

/-- The reference's frame: its run with the results dropped; it has no semaphore. -/
theorem frame_reference : Cert.quiescent_ReferenceIdeal := fun m ρ _ =>
  (θ_run Cert.ReferenceIdeal.defs _ _).mono (fun r h => ⟨fun d => (h d).2.2.2.2, sem_eq_zero_of_no_sems rfl r.2⟩)
    (Cert.ReferenceIdeal.Value.run (F := Ideal) m ρ)

/-- The four results: the kernel leaves in each of them what the reference computes. -/
theorem results : Cert.algebraic_KernelIdeal_ReferenceIdeal := by
  intro m ρ m' ρ' _ hargs
  refine ⟨_, _, _, _,
    (θ_run Cert.KernelIdeal.defs _ _).mono (fun r h d =>
      have hr := Cert.KernelIdeal.Wt.results_left m h d
      ⟨hr.1, hr.2.1, hr.2.2.1, hr.2.2.2, Cert.KernelIdeal.Wt.args_kept m h d⟩) (Cert.KernelIdeal.Wt.run_main (F := Ideal) m ρ),
    (θ_run Cert.ReferenceIdeal.defs _ _).mono (fun r h d => ?_) (Cert.ReferenceIdeal.Value.run (F := Ideal) m' ρ')⟩
  obtain ⟨h0, h1, h2, h3, hk⟩ := h d
  obtain ⟨a0, a1, a2, a3, a4, a5, a6, a7⟩ := hargs d
  refine ⟨h0.trans ?_, h1.trans ?_, h2.trans ?_, h3.trans ?_, hk⟩
  · rw [a0, a1]
    exact (Eqn.dense_eq _ _ _ _).symm
  · rw [a2, a4, a6]
    exact (Eqn.values_eq (F := Ideal) _ _ _).symm
  · rw [a3, a5, a7]
    exact (Eqn.lens_eq _ _ _).symm
  · rw [a3, a5, a7]
    exact (Eqn.offs_eq _ _ _).symm

theorem claim : Cert.Claim := ⟨Cert.Kernel.Gen.facts, Cert.KernelIdeal.Gen.facts, Cert.ReferenceIdeal.Gen.facts,
  frame_kernel, frame_ideal, frame_reference, trivial, results⟩

end Cert.Proof

end
